-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S512x8192 : Shape := ⟨2, ![512, 8192]⟩
abbrev S2x256x8192 : Shape := ⟨3, ![2, 256, 8192]⟩
abbrev S2x512x256 : Shape := ⟨3, ![2, 512, 256]⟩
abbrev S16x512x256 : Shape := ⟨3, ![16, 512, 256]⟩
abbrev S3 : Shape := ⟨1, ![3]⟩
abbrev S16 : Shape := ⟨1, ![16]⟩
abbrev S1 : Shape := ⟨1, ![1]⟩
abbrev S_ : Shape := ⟨0, ![]⟩
abbrev S1x256x8192 : Shape := ⟨3, ![1, 256, 8192]⟩
abbrev S256x8192 : Shape := ⟨2, ![256, 8192]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2048x2048, .f32⟩
  | .local _ .vmem, ⟨1, _⟩ => ⟨S512x8192, .f32⟩
  | .local _ .vmem, ⟨2, _⟩ => ⟨S2x256x8192, .f32⟩
  | .local _ .vmem, ⟨3, _⟩ => ⟨S2x512x256, .f32⟩
  | .local _ .vmem, ⟨4, _⟩ => ⟨S16x512x256, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v7 : BitVec 32 := Scalar.addi v6 c0_i32
  let c0_i32_3 : BitVec 32 := 0#32
  ![v7.toNat, 0]
def k0_dev1 (d0 : Dev nD) : Nat :=
  let c0_i32_14 : BitVec 32 := 0#32
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_10 v2
  let c2_i32_13 : BitVec 32 := 2#32
  let v19 : BitVec 32 := Scalar.muli v17 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
def k0_dev2 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v23 : BitVec 32 := Scalar.muli v2 c2_i32_17
  let v24 : BitVec 32 := Scalar.addi c0_i32_18 v23
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_11 v5
  let c1_i32_19 : BitVec 32 := 1#32
  let v25 : BitVec 32 := Scalar.muli v18 c1_i32_19
  let v26 : BitVec 32 := Scalar.addi v24 v25
  v26.toNat
def k0_dev3 (d0 : Dev nD) : Nat :=
  let c0_i32_48 : BitVec 32 := 0#32
  let c1_i32_42 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v48 : BitVec 32 := Scalar.subi c1_i32_42 v2
  let c2_i32_47 : BitVec 32 := 2#32
  let v49 : BitVec 32 := Scalar.muli v48 c2_i32_47
  let v50 : BitVec 32 := Scalar.addi c0_i32_48 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v51 : BitVec 32 := Scalar.muli v5 c1_i32_49
  let v52 : BitVec 32 := Scalar.addi v50 v51
  v52.toNat
def k0_dev4 (d0 : Dev nD) : Nat :=
  let c0_i32_79 : BitVec 32 := 0#32
  let c1_i32_73 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v78 : BitVec 32 := Scalar.subi c1_i32_73 v2
  let c2_i32_78 : BitVec 32 := 2#32
  let v79 : BitVec 32 := Scalar.muli v78 c2_i32_78
  let v80 : BitVec 32 := Scalar.addi c0_i32_79 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v81 : BitVec 32 := Scalar.muli v5 c1_i32_80
  let v82 : BitVec 32 := Scalar.addi v80 v81
  v82.toNat
def k0_off2 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v102 : BitVec 32 := Scalar.addi v6 c0_i32_97
  let v108 : Index := Scalar.indexCast v102
  let c0_104 : Index := 0#32
  ![v108.toNat, 0]
def k0_off3 (d0 : Dev nD) (c0_i32_105 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v110 : BitVec 32 := Scalar.addi v6 c0_i32_105
  let c0_i32_112 : BitVec 32 := 0#32
  ![v110.toNat, 0]
def k0_dev5 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v112 : BitVec 32 := Scalar.muli v2 c2_i32_109
  let v113 : BitVec 32 := Scalar.addi c0_i32_110 v112
  let c1_i32_106 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v111 : BitVec 32 := Scalar.subi c1_i32_106 v5
  let c1_i32_111 : BitVec 32 := 1#32
  let v114 : BitVec 32 := Scalar.muli v111 c1_i32_111
  let v115 : BitVec 32 := Scalar.addi v113 v114
  v115.toNat
def k0_dev6 (d0 : Dev nD) : Nat :=
  let c0_i32_150 : BitVec 32 := 0#32
  let c1_i32_144 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v146 : BitVec 32 := Scalar.subi c1_i32_144 v2
  let c2_i32_149 : BitVec 32 := 2#32
  let v147 : BitVec 32 := Scalar.muli v146 c2_i32_149
  let v148 : BitVec 32 := Scalar.addi c0_i32_150 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v149 : BitVec 32 := Scalar.muli v5 c1_i32_151
  let v150 : BitVec 32 := Scalar.addi v148 v149
  v150.toNat
def k0_off4 (d0 : Dev nD) (c0_i32_168 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v170 : BitVec 32 := Scalar.addi v6 c0_i32_168
  let v176 : Index := Scalar.indexCast v170
  let c256 : Index := 256#32
  ![v176.toNat, 256]
def k0_off5 (d0 : Dev nD) (c0_i32_175 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v178 : BitVec 32 := Scalar.addi v6 c0_i32_175
  let c256_i32_182 : BitVec 32 := 256#32
  ![v178.toNat, 256]
def k0_dev7 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_179 : BitVec 32 := 2#32
  let v180 : BitVec 32 := Scalar.muli v2 c2_i32_179
  let v181 : BitVec 32 := Scalar.addi c0_i32_180 v180
  let c1_i32_176 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v179 : BitVec 32 := Scalar.subi c1_i32_176 v5
  let c1_i32_181 : BitVec 32 := 1#32
  let v182 : BitVec 32 := Scalar.muli v179 c1_i32_181
  let v183 : BitVec 32 := Scalar.addi v181 v182
  v183.toNat
def k0_dev8 (d0 : Dev nD) : Nat :=
  let c0_i32_220 : BitVec 32 := 0#32
  let c1_i32_215 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v214 : BitVec 32 := Scalar.subi c1_i32_215 v2
  let c2_i32_219 : BitVec 32 := 2#32
  let v215 : BitVec 32 := Scalar.muli v214 c2_i32_219
  let v216 : BitVec 32 := Scalar.addi c0_i32_220 v215
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v217 : BitVec 32 := Scalar.muli v5 c1_i32_221
  let v218 : BitVec 32 := Scalar.addi v216 v217
  v218.toNat
def k0_off6 (d0 : Dev nD) (c0_i32_238 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v238 : BitVec 32 := Scalar.addi v6 c0_i32_238
  let v244 : Index := Scalar.indexCast v238
  let c512 : Index := 512#32
  ![v244.toNat, 512]
def k0_off7 (d0 : Dev nD) (c0_i32_244 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v246 : BitVec 32 := Scalar.addi v6 c0_i32_244
  let c512_i32_251 : BitVec 32 := 512#32
  ![v246.toNat, 512]
def k0_dev9 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v248 : BitVec 32 := Scalar.muli v2 c2_i32_248
  let v249 : BitVec 32 := Scalar.addi c0_i32_249 v248
  let c1_i32_245 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v247 : BitVec 32 := Scalar.subi c1_i32_245 v5
  let c1_i32_250 : BitVec 32 := 1#32
  let v250 : BitVec 32 := Scalar.muli v247 c1_i32_250
  let v251 : BitVec 32 := Scalar.addi v249 v250
  v251.toNat
def k0_dev10 (d0 : Dev nD) : Nat :=
  let c0_i32_288 : BitVec 32 := 0#32
  let c1_i32_283 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v282 : BitVec 32 := Scalar.subi c1_i32_283 v2
  let c2_i32_287 : BitVec 32 := 2#32
  let v283 : BitVec 32 := Scalar.muli v282 c2_i32_287
  let v284 : BitVec 32 := Scalar.addi c0_i32_288 v283
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v285 : BitVec 32 := Scalar.muli v5 c1_i32_289
  let v286 : BitVec 32 := Scalar.addi v284 v285
  v286.toNat
def k0_off8 (d0 : Dev nD) (c0_i32_306 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v306 : BitVec 32 := Scalar.addi v6 c0_i32_306
  let v312 : Index := Scalar.indexCast v306
  let c768 : Index := 768#32
  ![v312.toNat, 768]
def k0_off9 (d0 : Dev nD) (c0_i32_312 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v314 : BitVec 32 := Scalar.addi v6 c0_i32_312
  let c768_i32_319 : BitVec 32 := 768#32
  ![v314.toNat, 768]
def k0_dev11 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v316 : BitVec 32 := Scalar.muli v2 c2_i32_316
  let v317 : BitVec 32 := Scalar.addi c0_i32_317 v316
  let c1_i32_313 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v315 : BitVec 32 := Scalar.subi c1_i32_313 v5
  let c1_i32_318 : BitVec 32 := 1#32
  let v318 : BitVec 32 := Scalar.muli v315 c1_i32_318
  let v319 : BitVec 32 := Scalar.addi v317 v318
  v319.toNat
def k0_dev12 (d0 : Dev nD) : Nat :=
  let c0_i32_356 : BitVec 32 := 0#32
  let c1_i32_351 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v350 : BitVec 32 := Scalar.subi c1_i32_351 v2
  let c2_i32_355 : BitVec 32 := 2#32
  let v351 : BitVec 32 := Scalar.muli v350 c2_i32_355
  let v352 : BitVec 32 := Scalar.addi c0_i32_356 v351
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_357 : BitVec 32 := 1#32
  let v353 : BitVec 32 := Scalar.muli v5 c1_i32_357
  let v354 : BitVec 32 := Scalar.addi v352 v353
  v354.toNat
def k0_off10 (d0 : Dev nD) (c0_i32_374 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v374 : BitVec 32 := Scalar.addi v6 c0_i32_374
  let v380 : Index := Scalar.indexCast v374
  let c1024 : Index := 1024#32
  ![v380.toNat, 1024]
def k0_off11 (d0 : Dev nD) (c0_i32_380 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v382 : BitVec 32 := Scalar.addi v6 c0_i32_380
  let c1024_i32_387 : BitVec 32 := 1024#32
  ![v382.toNat, 1024]
def k0_dev13 (d0 : Dev nD) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v384 : BitVec 32 := Scalar.muli v2 c2_i32_384
  let v385 : BitVec 32 := Scalar.addi c0_i32_385 v384
  let c1_i32_381 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v383 : BitVec 32 := Scalar.subi c1_i32_381 v5
  let c1_i32_386 : BitVec 32 := 1#32
  let v386 : BitVec 32 := Scalar.muli v383 c1_i32_386
  let v387 : BitVec 32 := Scalar.addi v385 v386
  v387.toNat
def k0_dev14 (d0 : Dev nD) : Nat :=
  let c0_i32_424 : BitVec 32 := 0#32
  let c1_i32_419 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v418 : BitVec 32 := Scalar.subi c1_i32_419 v2
  let c2_i32_423 : BitVec 32 := 2#32
  let v419 : BitVec 32 := Scalar.muli v418 c2_i32_423
  let v420 : BitVec 32 := Scalar.addi c0_i32_424 v419
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_425 : BitVec 32 := 1#32
  let v421 : BitVec 32 := Scalar.muli v5 c1_i32_425
  let v422 : BitVec 32 := Scalar.addi v420 v421
  v422.toNat
def k0_off12 (d0 : Dev nD) (c0_i32_442 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v442 : BitVec 32 := Scalar.addi v6 c0_i32_442
  let v448 : Index := Scalar.indexCast v442
  let c1280 : Index := 1280#32
  ![v448.toNat, 1280]
def k0_off13 (d0 : Dev nD) (c0_i32_448 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v450 : BitVec 32 := Scalar.addi v6 c0_i32_448
  let c1280_i32_455 : BitVec 32 := 1280#32
  ![v450.toNat, 1280]
def k0_dev15 (d0 : Dev nD) : Nat :=
  let c0_i32_453 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_452 : BitVec 32 := 2#32
  let v452 : BitVec 32 := Scalar.muli v2 c2_i32_452
  let v453 : BitVec 32 := Scalar.addi c0_i32_453 v452
  let c1_i32_449 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v451 : BitVec 32 := Scalar.subi c1_i32_449 v5
  let c1_i32_454 : BitVec 32 := 1#32
  let v454 : BitVec 32 := Scalar.muli v451 c1_i32_454
  let v455 : BitVec 32 := Scalar.addi v453 v454
  v455.toNat
def k0_dev16 (d0 : Dev nD) : Nat :=
  let c0_i32_493 : BitVec 32 := 0#32
  let c1_i32_488 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v486 : BitVec 32 := Scalar.subi c1_i32_488 v2
  let c2_i32_492 : BitVec 32 := 2#32
  let v487 : BitVec 32 := Scalar.muli v486 c2_i32_492
  let v488 : BitVec 32 := Scalar.addi c0_i32_493 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_494 : BitVec 32 := 1#32
  let v489 : BitVec 32 := Scalar.muli v5 c1_i32_494
  let v490 : BitVec 32 := Scalar.addi v488 v489
  v490.toNat
def k0_off14 (d0 : Dev nD) (c0_i32_514 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v514 : BitVec 32 := Scalar.addi v6 c0_i32_514
  let v520 : Index := Scalar.indexCast v514
  let c1536 : Index := 1536#32
  ![v520.toNat, 1536]
def k0_off15 (d0 : Dev nD) (c0_i32_520 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v522 : BitVec 32 := Scalar.addi v6 c0_i32_520
  let c1536_i32_527 : BitVec 32 := 1536#32
  ![v522.toNat, 1536]
def k0_dev17 (d0 : Dev nD) : Nat :=
  let c0_i32_525 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_524 : BitVec 32 := 2#32
  let v524 : BitVec 32 := Scalar.muli v2 c2_i32_524
  let v525 : BitVec 32 := Scalar.addi c0_i32_525 v524
  let c1_i32_521 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v523 : BitVec 32 := Scalar.subi c1_i32_521 v5
  let c1_i32_526 : BitVec 32 := 1#32
  let v526 : BitVec 32 := Scalar.muli v523 c1_i32_526
  let v527 : BitVec 32 := Scalar.addi v525 v526
  v527.toNat
def k0_dev18 (d0 : Dev nD) : Nat :=
  let c0_i32_568 : BitVec 32 := 0#32
  let c1_i32_563 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v562 : BitVec 32 := Scalar.subi c1_i32_563 v2
  let c2_i32_567 : BitVec 32 := 2#32
  let v563 : BitVec 32 := Scalar.muli v562 c2_i32_567
  let v564 : BitVec 32 := Scalar.addi c0_i32_568 v563
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_569 : BitVec 32 := 1#32
  let v565 : BitVec 32 := Scalar.muli v5 c1_i32_569
  let v566 : BitVec 32 := Scalar.addi v564 v565
  v566.toNat
def k0_off16 (d0 : Dev nD) (c0_i32_586 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v586 : BitVec 32 := Scalar.addi v6 c0_i32_586
  let v592 : Index := Scalar.indexCast v586
  let c1792 : Index := 1792#32
  ![v592.toNat, 1792]
def k0_off17 (d0 : Dev nD) (c0_i32_592 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v6 : BitVec 32 := Scalar.muli v5 c1024_i32
  let v594 : BitVec 32 := Scalar.addi v6 c0_i32_592
  let c1792_i32_599 : BitVec 32 := 1792#32
  ![v594.toNat, 1792]
def k0_dev19 (d0 : Dev nD) : Nat :=
  let c0_i32_597 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_596 : BitVec 32 := 2#32
  let v596 : BitVec 32 := Scalar.muli v2 c2_i32_596
  let v597 : BitVec 32 := Scalar.addi c0_i32_597 v596
  let c1_i32_593 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v595 : BitVec 32 := Scalar.subi c1_i32_593 v5
  let c1_i32_598 : BitVec 32 := 1#32
  let v598 : BitVec 32 := Scalar.muli v595 c1_i32_598
  let v599 : BitVec 32 := Scalar.addi v597 v598
  v599.toNat
def k0_dev20 (d0 : Dev nD) : Nat :=
  let c0_i32_637 : BitVec 32 := 0#32
  let c1_i32_632 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v630 : BitVec 32 := Scalar.subi c1_i32_632 v2
  let c2_i32_636 : BitVec 32 := 2#32
  let v631 : BitVec 32 := Scalar.muli v630 c2_i32_636
  let v632 : BitVec 32 := Scalar.addi c0_i32_637 v631
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_638 : BitVec 32 := 1#32
  let v633 : BitVec 32 := Scalar.muli v5 c1_i32_638
  let v634 : BitVec 32 := Scalar.addi v632 v633
  v634.toNat
def k0_dev21 (d0 : Dev nD) : Nat :=
  let c0_i32_667 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_666 : BitVec 32 := 2#32
  let v664 : BitVec 32 := Scalar.muli v2 c2_i32_666
  let v665 : BitVec 32 := Scalar.addi c0_i32_667 v664
  let c1_i32_663 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v663 : BitVec 32 := Scalar.subi c1_i32_663 v5
  let c1_i32_668 : BitVec 32 := 1#32
  let v666 : BitVec 32 := Scalar.muli v663 c1_i32_668
  let v667 : BitVec 32 := Scalar.addi v665 v666
  v667.toNat
def k0_dev22 (d0 : Dev nD) : Nat :=
  let c0_i32_707 : BitVec 32 := 0#32
  let c1_i32_702 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v698 : BitVec 32 := Scalar.subi c1_i32_702 v2
  let c2_i32_706 : BitVec 32 := 2#32
  let v699 : BitVec 32 := Scalar.muli v698 c2_i32_706
  let v700 : BitVec 32 := Scalar.addi c0_i32_707 v699
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_708 : BitVec 32 := 1#32
  let v701 : BitVec 32 := Scalar.muli v5 c1_i32_708
  let v702 : BitVec 32 := Scalar.addi v700 v701
  v702.toNat
def k0_dev23 (d0 : Dev nD) : Nat :=
  let c0_i32_737 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_736 : BitVec 32 := 2#32
  let v732 : BitVec 32 := Scalar.muli v2 c2_i32_736
  let v733 : BitVec 32 := Scalar.addi c0_i32_737 v732
  let c1_i32_733 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v731 : BitVec 32 := Scalar.subi c1_i32_733 v5
  let c1_i32_738 : BitVec 32 := 1#32
  let v734 : BitVec 32 := Scalar.muli v731 c1_i32_738
  let v735 : BitVec 32 := Scalar.addi v733 v734
  v735.toNat
def k0_dev24 (d0 : Dev nD) : Nat :=
  let c0_i32_777 : BitVec 32 := 0#32
  let c1_i32_772 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v766 : BitVec 32 := Scalar.subi c1_i32_772 v2
  let c2_i32_776 : BitVec 32 := 2#32
  let v767 : BitVec 32 := Scalar.muli v766 c2_i32_776
  let v768 : BitVec 32 := Scalar.addi c0_i32_777 v767
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_778 : BitVec 32 := 1#32
  let v769 : BitVec 32 := Scalar.muli v5 c1_i32_778
  let v770 : BitVec 32 := Scalar.addi v768 v769
  v770.toNat
def k0_dev25 (d0 : Dev nD) : Nat :=
  let c0_i32_807 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_806 : BitVec 32 := 2#32
  let v800 : BitVec 32 := Scalar.muli v2 c2_i32_806
  let v801 : BitVec 32 := Scalar.addi c0_i32_807 v800
  let c1_i32_803 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v799 : BitVec 32 := Scalar.subi c1_i32_803 v5
  let c1_i32_808 : BitVec 32 := 1#32
  let v802 : BitVec 32 := Scalar.muli v799 c1_i32_808
  let v803 : BitVec 32 := Scalar.addi v801 v802
  v803.toNat
def k0_dev26 (d0 : Dev nD) : Nat :=
  let c0_i32_847 : BitVec 32 := 0#32
  let c1_i32_842 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v834 : BitVec 32 := Scalar.subi c1_i32_842 v2
  let c2_i32_846 : BitVec 32 := 2#32
  let v835 : BitVec 32 := Scalar.muli v834 c2_i32_846
  let v836 : BitVec 32 := Scalar.addi c0_i32_847 v835
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_848 : BitVec 32 := 1#32
  let v837 : BitVec 32 := Scalar.muli v5 c1_i32_848
  let v838 : BitVec 32 := Scalar.addi v836 v837
  v838.toNat
def k0_dev27 (d0 : Dev nD) : Nat :=
  let c0_i32_877 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_876 : BitVec 32 := 2#32
  let v868 : BitVec 32 := Scalar.muli v2 c2_i32_876
  let v869 : BitVec 32 := Scalar.addi c0_i32_877 v868
  let c1_i32_873 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v867 : BitVec 32 := Scalar.subi c1_i32_873 v5
  let c1_i32_878 : BitVec 32 := 1#32
  let v870 : BitVec 32 := Scalar.muli v867 c1_i32_878
  let v871 : BitVec 32 := Scalar.addi v869 v870
  v871.toNat
def k0_dev28 (d0 : Dev nD) : Nat :=
  let c0_i32_917 : BitVec 32 := 0#32
  let c1_i32_912 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v902 : BitVec 32 := Scalar.subi c1_i32_912 v2
  let c2_i32_916 : BitVec 32 := 2#32
  let v903 : BitVec 32 := Scalar.muli v902 c2_i32_916
  let v904 : BitVec 32 := Scalar.addi c0_i32_917 v903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_918 : BitVec 32 := 1#32
  let v905 : BitVec 32 := Scalar.muli v5 c1_i32_918
  let v906 : BitVec 32 := Scalar.addi v904 v905
  v906.toNat
def k0_dev29 (d0 : Dev nD) : Nat :=
  let c0_i32_947 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_946 : BitVec 32 := 2#32
  let v936 : BitVec 32 := Scalar.muli v2 c2_i32_946
  let v937 : BitVec 32 := Scalar.addi c0_i32_947 v936
  let c1_i32_943 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v935 : BitVec 32 := Scalar.subi c1_i32_943 v5
  let c1_i32_948 : BitVec 32 := 1#32
  let v938 : BitVec 32 := Scalar.muli v935 c1_i32_948
  let v939 : BitVec 32 := Scalar.addi v937 v938
  v939.toNat
def k0_dev30 (d0 : Dev nD) : Nat :=
  let c0_i32_987 : BitVec 32 := 0#32
  let c1_i32_982 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v970 : BitVec 32 := Scalar.subi c1_i32_982 v2
  let c2_i32_986 : BitVec 32 := 2#32
  let v971 : BitVec 32 := Scalar.muli v970 c2_i32_986
  let v972 : BitVec 32 := Scalar.addi c0_i32_987 v971
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_988 : BitVec 32 := 1#32
  let v973 : BitVec 32 := Scalar.muli v5 c1_i32_988
  let v974 : BitVec 32 := Scalar.addi v972 v973
  v974.toNat
def k0_dev31 (d0 : Dev nD) : Nat :=
  let c0_i32_1017 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1016 : BitVec 32 := 2#32
  let v1004 : BitVec 32 := Scalar.muli v2 c2_i32_1016
  let v1005 : BitVec 32 := Scalar.addi c0_i32_1017 v1004
  let c1_i32_1013 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1003 : BitVec 32 := Scalar.subi c1_i32_1013 v5
  let c1_i32_1018 : BitVec 32 := 1#32
  let v1006 : BitVec 32 := Scalar.muli v1003 c1_i32_1018
  let v1007 : BitVec 32 := Scalar.addi v1005 v1006
  v1007.toNat
def k0_dev32 (d0 : Dev nD) : Nat :=
  let c0_i32_1051 : BitVec 32 := 0#32
  let c1_i32_1046 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1033 : BitVec 32 := Scalar.subi c1_i32_1046 v2
  let c2_i32_1050 : BitVec 32 := 2#32
  let v1034 : BitVec 32 := Scalar.muli v1033 c2_i32_1050
  let v1035 : BitVec 32 := Scalar.addi c0_i32_1051 v1034
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1052 : BitVec 32 := 1#32
  let v1036 : BitVec 32 := Scalar.muli v5 c1_i32_1052
  let v1037 : BitVec 32 := Scalar.addi v1035 v1036
  v1037.toNat
def k0_dev33 (d0 : Dev nD) : Nat :=
  let c0_i32_1081 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1080 : BitVec 32 := 2#32
  let v1067 : BitVec 32 := Scalar.muli v2 c2_i32_1080
  let v1068 : BitVec 32 := Scalar.addi c0_i32_1081 v1067
  let c1_i32_1077 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1066 : BitVec 32 := Scalar.subi c1_i32_1077 v5
  let c1_i32_1082 : BitVec 32 := 1#32
  let v1069 : BitVec 32 := Scalar.muli v1066 c1_i32_1082
  let v1070 : BitVec 32 := Scalar.addi v1068 v1069
  v1070.toNat
def k0_dev34 (d0 : Dev nD) : Nat :=
  let c0_i32_1109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1108 : BitVec 32 := 2#32
  let v1098 : BitVec 32 := Scalar.muli v2 c2_i32_1108
  let v1099 : BitVec 32 := Scalar.addi c0_i32_1109 v1098
  let c1_i32_1105 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1097 : BitVec 32 := Scalar.subi c1_i32_1105 v5
  let c1_i32_1110 : BitVec 32 := 1#32
  let v1100 : BitVec 32 := Scalar.muli v1097 c1_i32_1110
  let v1101 : BitVec 32 := Scalar.addi v1099 v1100
  v1101.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealProg.lean ====
/-
# `Prog`: the kernel's body, written once at a symbolic step

The printed body is one straight line of operations, sixteen steps of a software pipeline one after another. Here the
same line is written with the step `g` symbolic (`step`, `reduce`, `bWait`), the offsets in closed form, and shown to be
the printed body at each of the four devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]

/-! ## The mesh: device `c = 2 x + y` -/

set_option backward.proofsInPublic true in
/-- The device in the other row of the mesh, same column of work: it holds the other half of the contraction. -/
def px (c : Dev nD) : Dev nD := ⟨((c.val % 2) + 2) - 2 * (c.val / 2), by have : c.val < 4 := c.isLt; show _ < 4; omega⟩
set_option backward.proofsInPublic true in
/-- The device holding the same half of the contraction, working on the other rows of the result. -/
def py (c : Dev nD) : Dev nD := ⟨(2 * (c.val / 2) + 1) - (c.val % 2), by have : c.val < 4 := c.isLt; show _ < 4; omega⟩

theorem px_px (c : Dev nD) : px (px c) = c := by revert c; decide
theorem py_py (c : Dev nD) : py (py c) = c := by revert c; decide

/-! ## The memrefs and semaphores -/

abbrev dyM : Memref sig .tc .hbm S2048x8192 .f32 := Memref.whole main_arg0
abbrev wM : Memref sig .tc .hbm S2048x8192 .f32 := Memref.whole main_arg1
abbrev oM : Memref sig .tc .vmem S2048x2048 .f32 := Memref.whole cc0_stg0_0
abbrev dvM : Memref sig .tc .vmem S512x8192 .f32 := Memref.whole cc0_scratch0
abbrev wbM : Memref sig .tc .vmem S2x256x8192 .f32 := Memref.whole cc0_scratch1
abbrev pbM : Memref sig .tc .vmem S2x512x256 .f32 := Memref.whole cc0_scratch2
abbrev cmM : Memref sig .tc .vmem S16x512x256 .f32 := Memref.whole cc0_scratch3

theorem dyInb (c : Dev nD) (p : Fin 2) : ∀ a, (![1024 * (c.val % 2) + 512 * p.val, 0] : Fin 2 → Nat) a + S512x8192.size a ≤ S2048x8192.size a := by
  revert c p; decide
theorem wInb (g : Fin 16) : ∀ a, (![256 * (g.val % 8), 0] : Fin 2 → Nat) a + S256x8192.size a ≤ S2048x8192.size a := by
  revert g; decide
theorem wbInb (s : Fin 2) : ∀ a, (![s.val, 0, 0] : Fin 3 → Nat) a + S1x256x8192.size a ≤ S2x256x8192.size a := by
  revert s; decide
theorem pbInb (s : Fin 2) : ∀ a, (![s.val, 0, 0] : Fin 3 → Nat) a + S1x512x256.size a ≤ S2x512x256.size a := by
  revert s; decide
theorem cmInb (g : Fin 16) : ∀ a, (![g.val, 0, 0] : Fin 3 → Nat) a + S1x512x256.size a ≤ S16x512x256.size a := by
  revert g; decide
theorem oInb (c : Dev nD) (g : Fin 16) : ∀ a, (![1024 * (c.val % 2) + 512 * (g.val / 8), 256 * (g.val % 8)] : Fin 2 → Nat) a + S512x256.size a ≤ S2048x2048.size a := by
  revert c g; decide

abbrev dyR (c : Dev nD) (p : Fin 2) : Rect S2048x8192 := Rect.unit (s := S2048x8192) ![1024 * (c.val % 2) + 512 * p.val, 0] S512x8192.size (dyInb c p)
abbrev wR (g : Fin 16) : Rect S2048x8192 := Rect.unit (s := S2048x8192) ![256 * (g.val % 8), 0] S256x8192.size (wInb g)
abbrev wbR (s : Fin 2) : Rect S2x256x8192 := Rect.unit (s := S2x256x8192) ![s.val, 0, 0] S1x256x8192.size (wbInb s)
abbrev pbR (s : Fin 2) : Rect S2x512x256 := Rect.unit (s := S2x512x256) ![s.val, 0, 0] S1x512x256.size (pbInb s)
abbrev cmR (g : Fin 16) : Rect S16x512x256 := Rect.unit (s := S16x512x256) ![g.val, 0, 0] S1x512x256.size (cmInb g)
abbrev oR (c : Dev nD) (g : Fin 16) : Rect S2048x2048 := Rect.unit (s := S2048x2048) ![1024 * (c.val % 2) + 512 * (g.val / 8), 256 * (g.val % 8)] S512x256.size (oInb c g)

set_option backward.proofsInPublic true in
/-- The slot of the two the step `n` uses. -/
abbrev par (n : ℕ) : Fin 2 := ⟨n % 2, Nat.mod_lt _ (by decide)⟩
theorem par_add_two (n : ℕ) : par (n + 2) = par n := Fin.ext (by show (n + 2) % 2 = n % 2; omega)

/-- The rows of `dy` the panel `p` reads. -/
abbrev dySrc (c : Dev nD) (p : Fin 2) : Memref sig .tc .hbm S512x8192 .f32 := dyM.slice (dyR c p) (fun _ => rfl)
/-- The rows of `W` the step `g` reads. -/
abbrev wSrc (g : Fin 16) : Memref sig .tc .hbm S256x8192 .f32 := wM.slice (wR g) (fun _ => rfl)
/-- The slot of the weight buffer they go to. -/
abbrev wSlot (s : Fin 2) : Memref sig .tc .vmem S256x8192 .f32 := (wbM.slice (wbR s) (fun _ => rfl)).squeeze S256x8192 squeezes_S1x256x8192_S256x8192
/-- The slot of the partial products. -/
abbrev pSlot (s : Fin 2) : Memref sig .tc .vmem S512x256 .f32 := (pbM.slice (pbR s) (fun _ => rfl)).squeeze S512x256 squeezes_S1x512x256_S512x256
/-- The landing slot of the peer's partial product. -/
abbrev cSlot (g : Fin 16) : Memref sig .tc .vmem S512x256 .f32 := (cmM.slice (cmR g) (fun _ => rfl)).squeeze S512x256 squeezes_S1x512x256_S512x256
/-- The block of the result the step `g` of device `c` computes. -/
abbrev oSl (c : Dev nD) (g : Fin 16) : Memref sig .tc .vmem S512x256 .f32 := oM.slice (oR c g) (fun _ => rfl)

abbrev barS : Sem sig := (SemArray.scalar (sig.barrier 0 rfl) : Sems sig S_).sem

set_option backward.proofsInPublic true in
abbrev semLd (s : Fin 3) : DmaSem sig := (⟨1 + s.val, by have := s.isLt; omega⟩ : Fin 68)
set_option backward.proofsInPublic true in
/-- The semaphores of step `g`: `j = 0, 1` the first exchange's send and receive, `j = 2, 3` the second's. -/
abbrev semX (j : Fin 4) (g : Fin 16) : DmaSem sig := (⟨4 + 16 * j.val + g.val, by have := j.isLt; have := g.isLt; omega⟩ : Fin 68)
set_option backward.proofsInPublic true in
abbrev par3 (s : Fin 2) : Fin 3 := ⟨s.val, by have := s.isLt; omega⟩
abbrev semW (s : Fin 2) : DmaSem sig := semLd (par3 s)

/-! ## The program -/

abbrev PG (F : FTy → Type) [FloatOps F] : Type 1 := Prog (TpuEff nD τ sig (Elt F) Λ₀ .tc) PUnit

def dyStart (c : Dev nD) (p : Fin 2) (k : PG F) : PG F :=
  .op (.enqueueDma (dySrc c p) (.here dvM) (.dma (semLd 2)) (View.wordExact_bits rfl) (Memref.isWhole_whole _).wordExact ⟨Or.inl rfl, trivial⟩) fun _ => k
def dyWait (c : Dev nD) (p : Fin 2) (k : PG F) : PG F :=
  .op (.waitDma2 (semLd 2) (dySrc c p) dvM (View.wordExact_bits rfl) (Memref.isWhole_whole _).wordExact) fun _ => k
def wStart (g : Fin 16) (k : PG F) : PG F :=
  .op (.enqueueDma (wSrc g) (.here (wSlot (par g.val))) (.dma (semW (par g.val))) (View.wordExact_bits rfl) ((View.wordExact_bits rfl).reshape _ _) ⟨Or.inl rfl, trivial⟩) fun _ => k
def wWait (g : Fin 16) (k : PG F) : PG F :=
  .op (.waitDma2 (semW (par g.val)) (wSrc g) (wSlot (par g.val)) (View.wordExact_bits rfl) ((View.wordExact_bits rfl).reshape _ _)) fun _ => k
def aSendWait (g : Fin 16) (k : PG F) : PG F :=
  .op (.waitDma2 (semX 0 g) (cSlot g) (pSlot (par g.val)) ((View.wordExact_bits rfl).reshape _ _) ((View.wordExact_bits rfl).reshape _ _)) fun _ => k
def dot (g : Fin 16) (k : PG F) : PG F :=
  .op (.load dvM (Rect.unit (s := S512x8192) ![0, 0] S512x8192.size inb_S512x8192_S512x8192_0_0).toLoadRect (View.loadsAt_vmem h_S512x8192)) fun v =>
  .op (.load wbM (wbR (par g.val)).toLoadRect (View.loadsAt_vmem h_S1x256x8192)) fun w =>
  .op (.load pbM (pbR (par g.val)).toLoadRect (View.loadsAt_vmem h_S1x512x256)) fun _ =>
  .op (.store pbM (pbR (par g.val)) (k0_pay1 v w) Finset.univ (View.stores_vmem_bits_univ h_S1x512x256 rfl) (.inl rfl)) fun _ => k
def aStart (c : Dev nD) (g : Fin 16) (k : PG F) : PG F :=
  .op (.enqueueDma (pSlot (par g.val)) (.remote (Dev.tc (px c)) (cSlot g) (.dma (semX 0 g))) (.dma (semX 1 g)) ((View.wordExact_bits rfl).reshape _ _) ((View.wordExact_bits rfl).reshape _ _) ⟨⟨rfl, Or.inl rfl⟩, trivial⟩) fun _ => k
def reduce (c : Dev nD) (g : Fin 16) (k : PG F) : PG F :=
  .op (.waitDma2 (semX 1 g) (pSlot (par g.val)) (cSlot g) ((View.wordExact_bits rfl).reshape _ _) ((View.wordExact_bits rfl).reshape _ _)) fun _ =>
  .op (.load pbM (pbR (par g.val)).toLoadRect (View.loadsAt_vmem h_S1x512x256)) fun v =>
  .op (.load cmM (cmR g).toLoadRect (View.loadsAt_vmem h_S1x512x256)) fun w =>
  .op (.load oM (oR c g).toLoadRect (View.loadsAt_vmem h_S512x256)) fun _ =>
  .op (.store oM (oR c g) (k0_pay3 v w) Finset.univ (View.stores_vmem_bits_univ h_S512x256 rfl) (.inl rfl)) fun _ =>
  .op (.enqueueDma (oSl c g) (.remote (Dev.tc (py c)) (oSl c g) (.dma (semX 2 g))) (.dma (semX 3 g)) (View.wordExact_bits rfl) (View.wordExact_bits rfl) ⟨⟨rfl, Or.inl rfl⟩, trivial⟩) fun _ => k
def bWait (c : Dev nD) (g : Fin 16) (k : PG F) : PG F :=
  .op (.waitDma2 (semX 2 g) (oSl c g) (oSl c g) (View.wordExact_bits rfl) (View.wordExact_bits rfl)) fun _ =>
  .op (.waitDma2 (semX 3 g) (oSl c g) (oSl c g) (View.wordExact_bits rfl) (View.wordExact_bits rfl)) fun _ => k

def whenP {p : Prop} [Decidable p] (e : p → PG F → PG F) (k : PG F) : PG F := if h : p then e h k else k

set_option backward.proofsInPublic true in
def step (c : Dev nD) (g : Fin 16) (k : PG F) : PG F :=
  whenP (p := g.val % 8 = 0) (fun _ => dyWait c ⟨g.val / 8, by omega⟩) <|
  whenP (p := g.val + 1 < 16) (fun h => wStart ⟨g.val + 1, h⟩) <|
  wWait g <|
  whenP (p := 2 ≤ g.val) (fun _ => aSendWait ⟨g.val - 2, by omega⟩) <|
  dot g <|
  aStart c g <|
  whenP (p := g.val = 7) (fun _ => dyStart c 1) <|
  whenP (p := 1 ≤ g.val) (fun _ => reduce c ⟨g.val - 1, by omega⟩) k

/-- The steps `g, g + 1, …`, `n` of them. -/
def steps (st : Fin 16 → PG F → PG F) : (n g : ℕ) → g + n ≤ 16 → PG F → PG F
  | 0, _, _, k => k
  | n + 1, g, h, k => st ⟨g, by omega⟩ (steps st n (g + 1) (by omega) k)

def prologue (c : Dev nD) (k : PG F) : PG F :=
  dyStart c 0 <| wStart 0 <|
  (semSignalWord (px c) barS 1#32).bind fun _ =>
  (semSignalWord (py c) barS 1#32).bind fun _ =>
  (semWaitWord barS 2#32).bind fun _ => k

def prog (c : Dev nD) : PG F :=
  prologue c <|
  steps (step c) 16 0 (by omega) <|
  reduce c 15 <| aSendWait 14 <| aSendWait 15 <|
  steps (bWait c) 16 0 (by omega) <| .ret PUnit.unit

/-- The printed body on the buffers the launch calls it with. -/
abbrev body : PG F :=
  cc0__fused_body dyM (Memref.isWhole_whole _) wM (Memref.isWhole_whole _) oM (Memref.isWhole_whole _) dvM (Memref.isWhole_whole _) wbM (Memref.isWhole_whole _) pbM (Memref.isWhole_whole _) cmM (Memref.isWhole_whole _) cc0_scratch4 cc0_scratch5 cc0_scratch6 cc0_scratch7 cc0_scratch8

theorem bodyAt_eq (t : Fin cfg0.N) : bodyAt0 (F := F) t = body := by
  have h : t = t0_0 := Fin.ext (by have := t.isLt; have : cfg0.N = 1 := N_0; show t.val = 0; omega)
  subst h; rfl

set_option maxRecDepth 100000 in
theorem body_eq : body (F := F) = .op .deviceId fun d => prog d := by
  have h : ∃ k : Dev nD → PG F, body (F := F) = .op .deviceId k ∧ ∀ d, k d = prog d := by
    refine ⟨_, rfl, fun d => ?_⟩
    match d with
    | ⟨0, _⟩ => sl_kernel_rfl
    | ⟨1, _⟩ => sl_kernel_rfl
    | ⟨2, _⟩ => sl_kernel_rfl
    | ⟨3, _⟩ => sl_kernel_rfl
  obtain ⟨k, h₁, h₂⟩ := h
  rw [h₁, funext h₂]

end Cert.KernelIdealProof

end
-- ==== Proof.KernelIdealSched.lean ====
/-
# `Sched`: what the devices exchange, as a schedule of rounds

Every semaphore of the kernel is a cell with a schedule: in which rounds it is signalled, by how much, and what the
signal hands to the device that waits. The contents are those of the run itself, in closed form: the rows of `dy` and
of `W` that were copied in, the product of the step (`PF`), the peer's product (`CF`), the sum (`red`) and the whole
result of the device (`OutF`).
-/
module

public import proofs.«01_k».proof.Proof.KernelIdealProg

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## Contents -/

abbrev Cont (r : Ref sig .tc) : Type := r.ty.Contents (Elt F)

abbrev panel (g : Fin 16) : Fin 2 := ⟨g.val / 8, by have := g.isLt; omega⟩

/-- The panel of `dy` on device `c`. -/
def dyV (c : Dev nD) (p : Fin 2) : Vec F S512x8192 .f32 := (dySrc c p).view.read (Elt F) (m ((c : Thread nD τ).loc main_arg0))
/-- The rows of `W` of the step. -/
def wV (c : Dev nD) (g : Fin 16) : Vec F S256x8192 .f32 := (wSrc g).view.read (Elt F) (m ((c : Thread nD τ).loc main_arg1))
/-- The weight buffer once they have landed. -/
def WF (c : Dev nD) (g : Fin 16) : (cc0_scratch1 : Ref sig .tc).ty.Contents (Elt F) :=
  (wSlot (par g.val)).view.write (Elt F) (m ((c : Thread nD τ).loc cc0_scratch1)) (wV m c g) Finset.univ
/-- The product of the step. -/
def partialV (c : Dev nD) (g : Fin 16) : FVec F S1x512x256 .f32 :=
  k0_pay1 (dyV m c (panel g)) ((wbM.access (wbR (par g.val))).read (Elt F) (WF m c g))
def PF (c : Dev nD) (g : Fin 16) : (cc0_scratch2 : Ref sig .tc).ty.Contents (Elt F) :=
  (pbM.access (pbR (par g.val))).write (Elt F) (m ((c : Thread nD τ).loc cc0_scratch2)) (partialV m c g) Finset.univ
/-- The landing buffer once the peer's product has landed. -/
def CF (c : Dev nD) (g : Fin 16) : (cc0_scratch3 : Ref sig .tc).ty.Contents (Elt F) :=
  (cSlot g).view.write (Elt F) (m ((c : Thread nD τ).loc cc0_scratch3)) ((pSlot (par g.val)).view.read (Elt F) (PF m (px c) g)) Finset.univ
/-- The sum of the two products of the step. -/
def red (c : Dev nD) (g : Fin 16) : FVec F S512x256 .f32 :=
  k0_pay3 ((pbM.access (pbR (par g.val))).read (Elt F) (PF m c g)) ((cmM.access (cmR g)).read (Elt F) (CF m c g))

set_option backward.proofsInPublic true in
/-- The step that computes the element. -/
def stepOf (i : S2048x2048.Idx) : Fin 16 :=
  ⟨8 * (((i 0).val % 1024) / 512) + (i 1).val / 256, by
    have h : (i 1).val < 2048 := (i 1).isLt
    have : ((i 0).val % 1024) < 1024 := Nat.mod_lt _ (by decide)
    omega⟩
/-- The device that computes it, of device `c` and the one it exchanges results with. -/
def devOf (c : Dev nD) (i : S2048x2048.Idx) : Dev nD := if (i 0).val / 1024 = c.val % 2 then c else py c
set_option backward.proofsInPublic true in
/-- Its place in the step's block. -/
def posOf (i : S2048x2048.Idx) : S512x256.Idx := fun a =>
  match a with
  | ⟨0, _⟩ => (⟨(i 0).val % 512, Nat.mod_lt _ (by decide)⟩ : Fin 512)
  | ⟨1, _⟩ => (⟨(i 1).val % 256, Nat.mod_lt _ (by decide)⟩ : Fin 256)

/-- The result of device `c`. -/
def OutF (c : Dev nD) : (cc0_stg0_0 : Ref sig .tc).ty.Contents (Elt F) := fun i => red m (devOf c i) (stepOf i) (posOf i)

theorem oR_val (d : Dev nD) (g : Fin 16) (x : S512x256.Idx) :
    ((oR d g).emb x 0).val = 1024 * (d.val % 2) + 512 * (g.val / 8) + (x 0).val ∧ ((oR d g).emb x 1).val = 256 * (g.val % 8) + (x 1).val := by
  constructor
  · show 1024 * (d.val % 2) + 512 * (g.val / 8) + 1 * (x 0).val = _; omega
  · show 256 * (g.val % 8) + 1 * (x 1).val = _; omega

theorem py_par (c : Dev nD) : (py c).val % 2 = 1 - c.val % 2 := by revert c; decide

omit [FloatOps F] in
theorem out_idx (c d : Dev nD) (hd : d = c ∨ d = py c) (g : Fin 16) (x : S512x256.Idx) :
    devOf c ((oR d g).emb x) = d ∧ stepOf ((oR d g).emb x) = g ∧ posOf ((oR d g).emb x) = x := by
  obtain ⟨h0, h1⟩ := oR_val d g x
  have hx0 : (x 0).val < 512 := (x 0).isLt
  have hx1 : (x 1).val < 256 := (x 1).isLt
  have hg := g.isLt
  have hp := py_par c
  refine ⟨?_, Fin.ext ?_, ?_⟩
  · unfold devOf
    rw [h0]
    rcases hd with rfl | rfl
    · rw [if_pos]; omega
    · rw [if_neg]; omega
  · show 8 * ((((oR d g).emb x 0).val % 1024) / 512) + ((oR d g).emb x 1).val / 256 = g.val
    rw [h0, h1]; omega
  · funext a
    match a with
    | ⟨0, _⟩ => exact Fin.ext (by show ((oR d g).emb x 0).val % 512 = (x 0).val; rw [h0]; omega)
    | ⟨1, _⟩ => exact Fin.ext (by show ((oR d g).emb x 1).val % 256 = (x 1).val; rw [h1]; omega)

theorem OutF_emb (c d : Dev nD) (hd : d = c ∨ d = py c) (g : Fin 16) (x : S512x256.Idx) :
    OutF m c ((oR d g).emb x) = red m d g x := by
  obtain ⟨h0, h1, h2⟩ := out_idx c d hd g x
  unfold OutF; rw [h0, h1, h2]

theorem OutF_read (c d : Dev nD) (hd : d = c ∨ d = py c) (g : Fin 16) : (oSl d g).view.read (Elt F) (OutF m c) = red m d g :=
  funext fun x => OutF_emb m c d hd g x

/-! ## Points-to through a memref -/

abbrev Pt (c : Dev nD) {sp : Space} {s : Shape} (v : Memref sig .tc sp s .f32) (q : PosShare TreeShare)
    (f : Buf (Elt F) (v.view.loc (c : Thread nD τ))) : sProp 𝕄 :=
  v.view.loc (c : Thread nD τ) ↦[v.view.set]{q} f

omit [FloatOps F] in
/-- A memref written all over holds any contents that read as what was written. -/
theorem Pt_write (c : Dev nD) {sp : Space} {s : Shape} (v : Memref sig .tc sp s .f32) (q : PosShare TreeShare)
    (fd g : v.view.ty.Contents (Elt F)) (w : s.Idx → Elt F .f32) (h : v.view.read (Elt F) g = w) :
    (v.view.loc (c : Thread nD τ) ↦[v.view.set]{q} v.view.write (Elt F) fd w Finset.univ : sProp 𝕄) = v.view.loc (c : Thread nD τ) ↦[v.view.set]{q} g := by
  subst h
  rw [View.write_read_eq_piecewise]
  exact pointsTo_congr fun i hi => Finset.piecewise_eq_of_mem _ _ _ hi

/-! ## The cells -/

abbrev KO : Type := Fin 3 ⊕ (Fin 4 × Fin 16)
abbrev KC : Type := Unit ⊕ KO

abbrev osem : KO → SemLoc sig
  | .inl s => .dma (semLd s)
  | .inr (j, g) => .dma (semX j g)
abbrev csem : KC → SemLoc sig
  | .inl _ => .reg barS
  | .inr k => osem k
abbrev kcell (ck : Dev nD × KC) : GSem nD τ sig := ((ck.1 : Thread nD τ), csem ck.2)

abbrev barC (c : Dev nD) : GSem nD τ sig := ((c : Thread nD τ), .reg barS)
abbrev ldC (c : Dev nD) (s : Fin 3) : GSem nD τ sig := ((c : Thread nD τ), .dma (semLd s))
abbrev xC (c : Dev nD) (j : Fin 4) (g : Fin 16) : GSem nD τ sig := ((c : Thread nD τ), .dma (semX j g))

set_option backward.proofsInPublic true in
/-- Which cell a semaphore is. -/
def dkN (n : ℕ) (h : n < 68) : Option KC :=
  if n = 0 then none
  else if h4 : n < 4 then some (.inr (.inl ⟨n - 1, by omega⟩))
  else some (.inr (.inr (⟨(n - 4) / 16, by omega⟩, ⟨(n - 4) % 16, Nat.mod_lt _ (by decide)⟩)))
set_option backward.proofsInPublic true in
def dk : SemLoc sig → Option KC
  | .reg s => if s = barS then some (.inl ()) else none
  | .dma i => dkN i.val i.isLt

theorem dk_bar : dk (.reg barS) = some (.inl ()) := by unfold dk; exact if_pos rfl
theorem dk_ld (s : Fin 3) : dk (.dma (semLd s)) = some (.inr (.inl s)) := by revert s; decide
theorem dk_x (j : Fin 4) (g : Fin 16) : dk (.dma (semX j g)) = some (.inr (.inr (j, g))) := by
  revert j g; decide
theorem dk_csem (k : KC) : dk (csem k) = some k := by
  match k with
  | .inl () => exact dk_bar
  | .inr (.inl s) => exact dk_ld s
  | .inr (.inr (j, g)) => exact dk_x j g
theorem csem_inj : Function.Injective csem := fun a b h => by
  have := congrArg dk h; rw [dk_csem, dk_csem] at this; exact Option.some.inj this
theorem kcell_inj : Function.Injective (kcell : Dev nD × KC → GSem nD τ sig) := by
  rintro ⟨c, k⟩ ⟨c', k'⟩ h
  have h1 : c = c' := by
    have := congrArg (fun g : GSem nD τ sig => g.1.1) h; exact this
  have h2 : k = k' := csem_inj (congrArg Prod.snd h)
  rw [h1, h2]

/-! ## The schedule -/

abbrev ND : ℕ := (dvM : Memref sig .tc .vmem S512x8192 .f32).view.dmaCredit
abbrev NW : ℕ := (wSlot 0).view.dmaCredit
abbrev NA : ℕ := (cSlot 0).view.dmaCredit
abbrev NB : ℕ := (oSl 0 0).view.dmaCredit

/-- The half of the weights' share that the copies into slot `s` hold. -/
abbrev half (s : Fin 2) : PosShare TreeShare := if s.val = 0 then fullShare.left else fullShare.right

set_option backward.proofsInPublic true in
/-- The step whose copy signals the loading cell `s` in round `r`. -/
abbrev stepAt (s r : ℕ) : Fin 16 := ⟨(2 * r + s) % 16, Nat.mod_lt _ (by decide)⟩

theorem stepAt_eq (g : Fin 16) : stepAt (par g.val).val (g.val / 2) = g := Fin.ext (by
  have := g.isLt; show (2 * (g.val / 2) + g.val % 2) % 16 = g.val; omega)

def wPay (c : Dev nD) (g : Fin 16) : sProp 𝕄 :=
  iprop(Pt c (wSlot (par g.val)) fullShare (WF m c g) ∗ Pt c (wSrc g) (half (par g.val)) (m ((c : Thread nD τ).loc main_arg1)))
def dyPay (c : Dev nD) (p : Fin 2) : sProp 𝕄 :=
  iprop(Pt c dvM fullShare (dyV m c p) ∗ Pt c (dySrc c p) fullShare (m ((c : Thread nD τ).loc main_arg0)))
/-- The four cells of step `g`: what each hands over. -/
def aSendPay (c : Dev nD) (g : Fin 16) : sProp 𝕄 := Pt c (pSlot (par g.val)) fullShare.left (PF m c g)
def aRecvPay (c : Dev nD) (g : Fin 16) : sProp 𝕄 := Pt c (cSlot g) fullShare (CF m c g)
def bSendPay (c : Dev nD) (g : Fin 16) : sProp 𝕄 := Pt c (oSl c g) fullShare (OutF m c)
def bRecvPay (c : Dev nD) (g : Fin 16) : sProp 𝕄 := Pt c (oSl (py c) g) fullShare (OutF m c)
def xPay (c : Dev nD) (j : Fin 4) (g : Fin 16) : sProp 𝕄 :=
  match j with
  | 0 => aSendPay m c g
  | 1 => aRecvPay m c g
  | 2 => bSendPay m c g
  | 3 => bRecvPay m c g
/-- The landing slot of step `g` on device `c`, at any contents. -/
def cAny (c : Dev nD) (g : Fin 16) : sProp 𝕄 := iprop(∃ f, Pt (F := F) c (cSlot g) fullShare f)
/-- The block of step `g` of device `d` in the result buffer of device `c`, at any contents. -/
def oAny (c d : Dev nD) (g : Fin 16) : sProp 𝕄 := iprop(∃ f, Pt (F := F) c (oSl d g) fullShare f)
/-- What the two neighbours' signals hand to device `c`. -/
def barPay (c : Dev nD) (d : Bool) : sProp 𝕄 :=
  if d then bigSep Finset.univ (fun g => oAny (F := F) (py c) c g) else bigSep Finset.univ (fun g => cAny (F := F) (px c) g)

def dutK : KC → ℕ → Finset Bool
  | .inl _, r => if r = 0 then Finset.univ else ∅
  | .inr (.inl s), r => if r < (if s = 2 then 2 else 8) then {false} else ∅
  | .inr (.inr _), r => if r = 0 then {false} else ∅
def amtK : KC → ℕ
  | .inl _ => 1
  | .inr (.inl s) => if s = 2 then ND else NW
  | .inr (.inr (j, _)) => if j.val < 2 then NA else NB
def payK (c : Dev nD) : KC → ℕ → Bool → sProp 𝕄
  | .inl _, _, d => barPay c d
  | .inr (.inl s), r, _ => if s = 2 then dyPay m c (par r) else wPay m c (stepAt s.val r)
  | .inr (.inr (j, g)), _, _ => xPay m c j g

theorem amtK_pos (k : KC) : 0 < amtK k := by
  match k with
  | .inl _ => exact Nat.one_pos
  | .inr (.inl s) =>
    show 0 < if s = 2 then ND else NW
    split
    · exact View.dmaCredit_pos _ (by decide)
    · exact View.dmaCredit_pos _ (by decide)
  | .inr (.inr (j, g)) =>
    show 0 < if j.val < 2 then NA else NB
    split
    · exact View.dmaCredit_pos _ (by decide)
    · exact View.dmaCredit_pos _ (by decide)

def Rd : Rounds.Schedule (GSem nD τ sig) Bool 𝕄 where
  duties g r := if g.1.2 = .tc then (match dk g.2 with | some k => dutK k r | none => ∅) else ∅
  unitless _ := False
  amount g _ _ := match dk g.2 with | some k => amtK k | none => 1
  payload g r d := match dk g.2 with | some k => payK m g.1.1 k r d | none => iprop(emp)
  amount_pos g _ _ _ := by
    show 0 < (match dk g.2 with | some k => amtK k | none => 1)
    split
    · exact amtK_pos _
    · exact Nat.one_pos

omit [FloatOps F] in
instance cAny_storable (c : Dev nD) (g : Fin 16) : BI.Storable (upEmb : UEmb _ 𝕄) (cAny (F := F) c g) := by unfold cAny; infer_instance
omit [FloatOps F] in
instance oAny_storable (c d : Dev nD) (g : Fin 16) : BI.Storable (upEmb : UEmb _ 𝕄) (oAny (F := F) c d g) := by unfold oAny; infer_instance

omit [FloatOps F] in
instance barPay_storable (c : Dev nD) (d : Bool) : BI.Storable (upEmb : UEmb _ 𝕄) (barPay (F := F) c d) := by
  unfold barPay; cases d
  · rw [if_neg Bool.false_ne_true]; infer_instance
  · rw [if_pos rfl]; infer_instance
instance dyPay_storable (c : Dev nD) (p : Fin 2) : BI.Storable (upEmb : UEmb _ 𝕄) (dyPay (F := F) m c p) := by unfold dyPay; infer_instance
instance wPay_storable (c : Dev nD) (g : Fin 16) : BI.Storable (upEmb : UEmb _ 𝕄) (wPay (F := F) m c g) := by unfold wPay; infer_instance
instance xPay_storable (c : Dev nD) (j : Fin 4) (g : Fin 16) : BI.Storable (upEmb : UEmb _ 𝕄) (xPay (F := F) m c j g) := by
  match j with
  | 0 => show BI.Storable upEmb (aSendPay m c g); unfold aSendPay; infer_instance
  | 1 => show BI.Storable upEmb (aRecvPay m c g); unfold aRecvPay; infer_instance
  | 2 => show BI.Storable upEmb (bSendPay m c g); unfold bSendPay; infer_instance
  | 3 => show BI.Storable upEmb (bRecvPay m c g); unfold bRecvPay; infer_instance
instance payK_storable (c : Dev nD) (k : KC) (r : ℕ) (d : Bool) : BI.Storable (upEmb : UEmb _ 𝕄) (payK (F := F) m c k r d) := by
  match k with
  | .inl _ => show BI.Storable upEmb (barPay c d); infer_instance
  | .inr (.inl s) =>
    show BI.Storable upEmb (if s = 2 then dyPay m c (par r) else wPay m c (stepAt s.val r))
    by_cases h : s = 2
    · rw [if_pos h]; infer_instance
    · rw [if_neg h]; infer_instance
  | .inr (.inr (j, g)) => show BI.Storable upEmb (xPay m c j g); infer_instance

instance Rd_payload_storable (g : GSem nD τ sig) (r : ℕ) (d : Bool) :
    BI.Storable (upEmb : UEmb _ 𝕄) ((Rd (F := F) m).payload g r d) := by
  show BI.Storable upEmb (match dk g.2 with | some k => payK m g.1.1 k r d | none => iprop(emp))
  cases h : dk g.2 <;> (simp only []; infer_instance)

theorem Rd_duties (c : Dev nD) (k : KC) (r : ℕ) : (Rd (F := F) m).duties (kcell (c, k)) r = dutK k r := by
  show (if (c : Thread nD τ).2 = .tc then (match dk (csem k) with | some k => dutK k r | none => ∅) else ∅) = _
  rw [if_pos rfl, dk_csem]
theorem Rd_amount (c : Dev nD) (k : KC) (r : ℕ) (d : Bool) : (Rd (F := F) m).amount (kcell (c, k)) r d = amtK k := by
  show (match dk (csem k) with | some k => amtK k | none => 1) = _
  rw [dk_csem]
theorem Rd_payload (c : Dev nD) (k : KC) (r : ℕ) (d : Bool) : (Rd (F := F) m).payload (kcell (c, k)) r d = payK m c k r d := by
  show (match dk (csem k) with | some k => payK m c k r d | none => iprop(emp)) = _
  rw [dk_csem]

theorem expect_one (c : Dev nD) (k : KC) (r : ℕ) (h : dutK k r = {false}) : (Rd (F := F) m).expect (kcell (c, k)) r = amtK k := by
  unfold Schedule.expect Schedule.amountOf
  rw [Rd_duties, h, Finset.sum_singleton, Rd_amount]
theorem rest_one (c : Dev nD) (k : KC) (r : ℕ) (h : dutK k r = {false}) :
    bigSep ((Rd (F := F) m).duties (kcell (c, k)) r \ ∅) (fun d => (Rd (F := F) m).payload (kcell (c, k)) r d) = payK m c k r false := by
  rw [Finset.sdiff_empty, Rd_duties, h, bigSep_singleton, Rd_payload]

theorem expect_bar (c : Dev nD) : (Rd (F := F) m).expect (barC c) 0 = 2 := by
  show (Rd (F := F) m).expect (kcell (c, .inl ())) 0 = 2
  unfold Schedule.expect Schedule.amountOf
  rw [Rd_duties, Finset.sum_congr rfl fun d _ => Rd_amount m c _ 0 d]
  decide
theorem rest_bar (c : Dev nD) :
    bigSep ((Rd (F := F) m).duties (barC c) 0 \ ∅) (fun d => (Rd (F := F) m).payload (barC c) 0 d)
      = iprop(bigSep Finset.univ (fun g => cAny (F := F) (px c) g) ∗ bigSep Finset.univ (fun g => oAny (F := F) (py c) c g)) := by
  show bigSep ((Rd (F := F) m).duties (kcell (c, .inl ())) 0 \ ∅) (fun d => (Rd (F := F) m).payload (kcell (c, .inl ())) 0 d) = _
  rw [Finset.sdiff_empty, Rd_duties, show dutK (.inl ()) 0 = Finset.univ from (by unfold dutK; exact if_pos rfl), bigSep_univ_eq_bigSepL [false, true] (by decide) (by decide), bigSepL_cons_cons, bigSepL_singleton,
    Rd_payload, Rd_payload]
  rfl

/-- Rounds of a cell. -/
def rdsK : KC → ℕ
  | .inl _ => 1
  | .inr (.inl s) => if s = 2 then 2 else 8
  | .inr (.inr _) => 1
theorem duties_later (c : Dev nD) (k : KC) : ∀ r, rdsK k ≤ r → (Rd (F := F) m).duties (kcell (c, k)) r = ∅ := fun r hr => by
  rw [Rd_duties]
  match k with
  | .inl _ => exact if_neg (by have : 1 ≤ r := hr; omega)
  | .inr (.inl s) => exact if_neg (by have : (if s = 2 then 2 else 8) ≤ r := hr; omega)
  | .inr (.inr _) => exact if_neg (by have : 1 ≤ r := hr; omega)

/-! ## Levels, and what a device owes -/

def L (g : GSem nD τ sig) : Finset Unit := if g.1.2 = .tc then {()} else ∅
def lvK : KC → ℕ
  | .inl _ => 1
  | .inr (.inl _) => 0
  | .inr (.inr (j, g)) => if j = 1 then 2 + 2 * g.val else if j = 3 then 3 + 2 * g.val else 0
/-- The barrier at 1, the receives of step `g` at `2 + 2 g` and `3 + 2 g`, the rest at 0. -/
def lv (g : GSem nD τ sig) (_ : Unit) : ℕ := match dk g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KC) (u : Unit) : lv (kcell (c, k)) u = lvK k := by
  show (match dk (csem k) with | some k => lvK k | none => 0) = _; rw [dk_csem]

/-- What is owed to the peer's receive cells from step `a` on, -/
def OA (c : Dev nD) (a : ℕ) : CellTallies nD τ sig Unit := ∑ g ∈ Finset.univ.filter (fun g : Fin 16 => a ≤ g.val), tallyAt (xC (px c) 1 g) () NA
/-- and for the second exchange. -/
def OB (c : Dev nD) (b : ℕ) : CellTallies nD τ sig Unit := ∑ g ∈ Finset.univ.filter (fun g : Fin 16 => b ≤ g.val), tallyAt (xC (py c) 3 g) () NB

theorem filter_step (a : Fin 16) : Finset.univ.filter (fun g : Fin 16 => a.val ≤ g.val) = insert a (Finset.univ.filter (fun g : Fin 16 => a.val + 1 ≤ g.val)) := by
  ext g
  simp only [Finset.mem_filter, Finset.mem_univ, true_and, Finset.mem_insert, Fin.ext_iff]; omega
theorem filter_step_notMem (a : Fin 16) : a ∉ Finset.univ.filter (fun g : Fin 16 => a.val + 1 ≤ g.val) := by
  simp only [Finset.mem_filter, Finset.mem_univ, true_and]; omega
theorem filter_end (a : ℕ) (h : 16 ≤ a) : Finset.univ.filter (fun g : Fin 16 => a ≤ g.val) = ∅ := by
  ext g; have := g.isLt
  simp only [Finset.mem_filter, Finset.mem_univ, true_and, Finset.notMem_empty, iff_false]; omega

theorem OA_step (c : Dev nD) (a : Fin 16) : OA c a.val = OA c (a.val + 1) + tallyAt (xC (px c) 1 a) () NA := by
  unfold OA; rw [filter_step, Finset.sum_insert (filter_step_notMem a), add_comm]
theorem OB_step (c : Dev nD) (a : Fin 16) : OB c a.val = OB c (a.val + 1) + tallyAt (xC (py c) 3 a) () NB := by
  unfold OB; rw [filter_step, Finset.sum_insert (filter_step_notMem a), add_comm]
theorem OA_end (c : Dev nD) : OA c 16 = 0 := by unfold OA; rw [filter_end 16 (le_refl _)]; rfl
theorem OB_end (c : Dev nD) : OB c 16 = 0 := by unfold OB; rw [filter_end 16 (le_refl _)]; rfl

def O₁ (c : Dev nD) : CellTallies nD τ sig Unit := OA c 0 + OB c 0
def O₀ (c : Dev nD) : CellTallies nD τ sig Unit := O₁ c + tallyAt (barC (py c)) () 1 + tallyAt (barC (px c)) () 1

/-- Every cell owed lies above level `n`. -/
def Above (n : ℕ) (O : CellTallies nD τ sig Unit) : Prop := ∀ g u, 0 < O g u → u ∈ L g ∧ n < lv g u

theorem Above.zero (n : ℕ) : Above n 0 := fun g u h => absurd h (by show ¬ 0 < 0; omega)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} (c : Dev nD) (k : KC) (N : ℕ) (h : n < lvK k) : Above n (tallyAt (kcell (c, k)) () N) := fun g u hg => by
  rw [tallyAt_apply] at hg
  by_cases h' : g = kcell (c, k) ∧ u = ()
  · rw [h'.1, h'.2, L_tc, lv_cell]; exact ⟨Finset.mem_singleton_self _, h⟩
  · rw [if_neg h'] at hg; exact absurd hg (Nat.lt_irrefl 0)
theorem Above.sum {n : ℕ} (s : Finset (Fin 16)) (f : Fin 16 → CellTallies nD τ sig Unit) (h : ∀ g ∈ s, Above n (f g)) : Above n (∑ g ∈ s, f g) := by
  induction s using Finset.induction_on with
  | empty => exact Above.zero n
  | insert a s ha ih =>
    rw [Finset.sum_insert ha]
    exact (h a (Finset.mem_insert_self _ _)).add (ih fun g hg => h g (Finset.mem_insert_of_mem hg))

theorem OA_above (c : Dev nD) (a n : ℕ) (h : n < 2 + 2 * a) : Above n (OA c a) := by
  unfold OA
  refine Above.sum _ _ fun g hg => Above.tally (px c) (.inr (.inr (1, g))) NA ?_
  have := (Finset.mem_filter.mp hg).2
  show n < 2 + 2 * g.val; omega
theorem OB_above (c : Dev nD) (b n : ℕ) (h : n < 3 + 2 * b) : Above n (OB c b) := by
  unfold OB
  refine Above.sum _ _ fun g hg => Above.tally (py c) (.inr (.inr (3, g))) NB ?_
  have := (Finset.mem_filter.mp hg).2
  show n < 3 + 2 * g.val; omega

omit [FloatOps F] in
theorem mayWait (c : Dev nD) (k : KC) (O : CellTallies nD τ sig Unit) (h : Above (lvK k) O) :
    (levAts L lv : sProp 𝕄) ⊢ MayWait (c : Thread nD τ) (csem k) () O :=
  MayOwe.of_cut (L := L) (lev := lv) (lvK k) (fun p hp => by rw [Finset.mem_singleton.mp hp]; show () ∈ L ((c : Thread nD τ), csem k); rw [L_tc]; exact Finset.mem_singleton_self _)
    (fun g u hg => (h g u hg).1)
    (fun p hp => by rw [Finset.mem_singleton.mp hp]; exact le_of_eq (lv_cell c k ()))
    (fun g u hg => (h g u hg).2)

end Cert.KernelIdealProof

end
-- ==== Proof.KernelIdealSteps.lean ====
/-
# `Steps`: the operations of the pipeline, one at a time

What device `c` holds of each resource between two operations, and each operation of the pipeline as a step from what it
needs to what it leaves.
-/
module

public import proofs.«01_k».proof.Proof.KernelIdealSched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to `Q`. -/
abbrev WP (c : Dev nD) (p : PG F) (Q : PUnit → sProp 𝕄) : sProp 𝕄 :=
  wp frame (wpE (defs₀ (F := F)) 𝒱₀ (c : Thread nD τ) none) Set.univ p Q

/-! ## The records every operation reads -/

def recs (K : Dev nD × KC → ℕ) : sProp 𝕄 :=
  bigSep Finset.univ fun ck => iprop(cellInv ER (Rd m) (K ck) (kcell ck) ∗ reached ER (kcell ck) 0)
def Ctx (K : Dev nD × KC → ℕ) : sProp 𝕄 := iprop(recs m K ∗ levAts L lv)

instance recs_persistent (K : Dev nD × KC → ℕ) : BI.Persistent (recs (F := F) m K) := by unfold recs; infer_instance
instance Ctx_persistent (K : Dev nD × KC → ℕ) : BI.Persistent (Ctx (F := F) m K) := by unfold Ctx; infer_instance

variable (K : Dev nD × KC → ℕ)

theorem recs_elim (ck : Dev nD × KC) : recs (F := F) m K ⊢ iprop(cellInv ER (Rd m) (K ck) (kcell ck) ∗ reached ER (kcell ck) 0) :=
  bigSep_elim (Φ := fun ck => iprop(cellInv ER (Rd (F := F) m) (K ck) (kcell ck) ∗ reached ER (kcell ck) 0)) (Finset.mem_univ ck)
theorem Ctx_inv (ck : Dev nD × KC) : Ctx (F := F) m K ⊢ cellInv ER (Rd m) (K ck) (kcell ck) := by
  unfold Ctx
  iintro ⟨#H, -⟩
  ihave H' := (recs_elim m K ck) $$ H
  icases H' with ⟨H1, -⟩; iexact H1
theorem Ctx_r0 (ck : Dev nD × KC) : Ctx (F := F) m K ⊢ reached ER (kcell ck) 0 := by
  unfold Ctx
  iintro ⟨#H, -⟩
  ihave H' := (recs_elim m K ck) $$ H
  icases H' with ⟨-, H1⟩; iexact H1
theorem Ctx_wait (c : Dev nD) (k : KC) (O : CellTallies nD τ sig Unit) (h : Above (lvK k) O) :
    Ctx (F := F) m K ⊢ MayWait (c : Thread nD τ) (csem k) () O := by
  unfold Ctx
  iintro ⟨-, #H⟩
  iapply (mayWait c k O h); iexact H

/-- What device `c` owes, at some record of its waits. -/
def Ows (c : Dev nD) (O : CellTallies nD τ sig Unit) : sProp 𝕄 := iprop(∃ W, owes (c : Thread nD τ) O W)

/-- The wait for a whole round of one of the device's cells. -/
theorem wp_round (c : Dev nD) (k : KO) (r : ℕ) (h : dutK (.inr k) r = {false}) (O : CellTallies nD τ sig Unit) (hO : Above (lvK (.inr k)) O)
    {sp sp' : Space} {s s' : Shape} {e e' : EltTy} {src : Memref sig .tc sp s e} {dst : Memref sig .tc sp' s' e'}
    {hsrc : src.view.WordExact} {hdst : dst.view.WordExact} {sem : DmaSem sig}
    (hs : osem k = .dma sem) (hN : dst.view.dmaCredit = amtK (.inr k)) (kk : PG F) (Q : PUnit → sProp 𝕄) :
    iprop(Ctx m K ∗ Ows c O ∗ cred (tallyAt (kcell (c, .inr k)) () (amtK (.inr k))) ∗ atPos ER (kcell (c, .inr k)) r ∅ 0
        ∗ ((Ows c O ∗ atPos ER (kcell (c, .inr k)) (r + 1) ∅ 0 ∗ reached ER (kcell (c, .inr k)) (r + 1) ∗ payK m c (.inr k) r false) -∗ WP c kk Q))
      ⊢ WP c (.op (.waitDma2 sem src dst hsrc hdst) fun _ => kk) Q := by
  have hcell : kcell (c, .inr k) = ((c : Thread nD τ), SemLoc.dma sem) := congrArg (Prod.mk (c : Thread nD τ)) hs
  have hexp := expect_one (F := F) m c (.inr k) r h
  have hrest := rest_one (F := F) m c (.inr k) r h
  have hinv := Ctx_inv (F := F) m K (c, .inr k)
  have hw := Ctx_wait (F := F) m K c (.inr k) O hO
  rw [show csem (.inr k) = .dma sem from hs] at hw
  rw [hcell] at hexp hrest hinv ⊢
  rw [← hN] at hexp ⊢
  unfold Ows
  iintro ⟨#HC, ⟨%W, HO⟩, Hc, Hat, Hk⟩
  iapply (Rounds.wp_wait_rest_token 𝒱₀ ER (Rd m) (c : Thread nD τ) none (κ := K (c, .inr k))
      (wpE_waitDma2_eq 𝒱₀ (c : Thread nD τ) none Set.univ) (Set.mem_univ _) () (O := O) (W := W) (R := r) (m := 0) (T := ∅)
      (by rw [Nat.zero_add, hexp])) $$ [HO Hc Hat]
  · isplitr; · iapply hinv; iexact HC
    isplitl [Hc]; · iexact Hc
    isplitl [HO]; · iexact HO
    isplitr; · iapply hw; iexact HC
    iexact Hat
  iintro ⟨HO, Hat, Hr, Hpay⟩
  ihave Hp := (Entails.of_eq hrest) $$ Hpay
  iapply Hk
  isplitl [HO]; · iexists _; iexact HO
  isplitl [Hat]; · iexact Hat
  isplitl [Hr]; · iexact Hr
  iexact Hp

theorem dut_ld (s : Fin 3) (r : ℕ) (h : r < if s = 2 then 2 else 8) : dutK (.inr (.inl s)) r = {false} := by unfold dutK; exact if_pos h
theorem dut_x (j : Fin 4) (g : Fin 16) : dutK (.inr (.inr (j, g))) 0 = {false} := by unfold dutK; exact if_pos rfl

/-! ## The arguments -/

abbrev A0 (c : Dev nD) : sProp 𝕄 := (c : Thread nD τ).loc main_arg0 ↦{fullShare} m ((c : Thread nD τ).loc main_arg0)
abbrev A0rest (c : Dev nD) (p : Fin 2) : sProp 𝕄 :=
  (c : Thread nD τ).loc main_arg0 ↦[Finset.univ \ (dySrc c p).view.set]{fullShare} m ((c : Thread nD τ).loc main_arg0)
abbrev A1 (c : Dev nD) (s : Fin 2) : sProp 𝕄 := (c : Thread nD τ).loc main_arg1 ↦{half s} m ((c : Thread nD τ).loc main_arg1)
abbrev A1rest (c : Dev nD) (g : Fin 16) : sProp 𝕄 :=
  (c : Thread nD τ).loc main_arg1 ↦[Finset.univ \ (wSrc g).view.set]{half (par g.val)} m ((c : Thread nD τ).loc main_arg1)

omit [FloatOps F] in
theorem A0_split (c : Dev nD) (p : Fin 2) :
    A0 m c ⊣⊢ iprop(Pt c (dySrc c p) fullShare (m ((c : Thread nD τ).loc main_arg0)) ∗ A0rest m c p) :=
  pointsTo_split_subset (Finset.subset_univ _)
omit [FloatOps F] in
theorem A1_split (c : Dev nD) (g : Fin 16) :
    A1 m c (par g.val) ⊣⊢ iprop(Pt c (wSrc g) (half (par g.val)) (m ((c : Thread nD τ).loc main_arg1)) ∗ A1rest m c g) :=
  pointsTo_split_subset (Finset.subset_univ _)

/-! ## The panels of `dy` -/

def dFlight (c : Dev nD) (p : Fin 2) : sProp 𝕄 :=
  iprop(A0rest m c p ∗ cred (tallyAt (ldC c 2) () ND) ∗ atPos ER (ldC c 2) p.val ∅ 0)
def dLoaded (c : Dev nD) (p : Fin 2) : sProp 𝕄 :=
  iprop(Pt c dvM fullShare (dyV m c p) ∗ A0 m c ∗ atPos ER (ldC c 2) (p.val + 1) ∅ 0 ∗ reached ER (ldC c 2) (p.val + 1))
def dTok (c : Dev nD) (p : Fin 2) : sProp 𝕄 := dutyTok ER (ldC c 2) p.val false

theorem payK_dy (c : Dev nD) (p : Fin 2) : payK (F := F) m c (.inr (.inl 2)) p.val false = dyPay m c p := by
  show (if (2 : Fin 3) = 2 then dyPay m c (par p.val) else wPay m c (stepAt (2 : Fin 3).val p.val)) = _
  rw [if_pos rfl]
  congr 1
  exact Fin.ext (by have := p.isLt; show p.val % 2 = p.val; omega)

theorem wp_dyStart (c : Dev nD) (p : Fin 2) (kk : PG F) (Q : PUnit → sProp 𝕄) :
    iprop(Ctx m K ∗ (∃ f, Pt c dvM fullShare f) ∗ A0 m c ∗ dTok (F := F) c p ∗ atPos ER (ldC c 2) p.val ∅ 0 ∗ reached ER (ldC c 2) p.val
        ∗ (dFlight m c p -∗ WP c kk Q))
      ⊢ WP c (dyStart c p kk) Q := by
  unfold dyStart dTok dFlight
  iintro ⟨#HC, ⟨%f, Hdv⟩, HA, Ht, Hat, #Hr, Hk⟩
  ihave HA' := (A0_split m c p).1 $$ HA
  icases HA' with ⟨Hs, HA⟩
  iapply (Rounds.wp_copy_pointsTo 𝒱₀ ER (Rd m) (c : Thread nD τ) none (κ := K (c, .inr (.inl 2))) (r := p.val) (d := false) (fd := f) (q := fullShare)
      (fs := m ((c : Thread nD τ).loc main_arg0))
      (by show false ∈ (Rd m).duties (kcell (c, .inr (.inl 2))) p.val; rw [Rd_duties, dut_ld 2 _ p.isLt]; exact Finset.mem_singleton_self _)
      () ND rfl (Rd_amount m c (.inr (.inl 2)) p.val false)
      (by
        show _ ⊢ (Rd m).payload (kcell (c, .inr (.inl 2))) p.val false
        rw [Rd_payload, payK_dy]
        unfold dyPay
        exact sep_mono_left (Entails.of_eq (Pt_write c dvM fullShare f (dyV m c p) _ (View.read_whole _ _))))) $$ [Hdv Hs Ht]
  · isplitr; · iapply (Ctx_inv m K (c, .inr (.inl 2))); iexact HC
    isplitl [Hs]; · iexact Hs
    isplitl [Hdv]; · iexact Hdv
    isplitl [Ht]; · iexact Ht
    iexact Hr
  iintro Hc
  iapply Hk
  isplitl [HA]; · iexact HA
  isplitl [Hc]; · iexact Hc
  iexact Hat

theorem wp_dyWait (c : Dev nD) (p : Fin 2) (O : CellTallies nD τ sig Unit) (hO : Above 0 O) (kk : PG F) (Q : PUnit → sProp 𝕄) :
    iprop(Ctx m K ∗ Ows c O ∗ dFlight m c p ∗ ((Ows c O ∗ dLoaded m c p) -∗ WP c kk Q)) ⊢ WP c (dyWait c p kk) Q := by
  unfold dyWait dFlight dLoaded
  iintro ⟨#HC, HO, ⟨HA, Hc, Hat⟩, Hk⟩
  iapply (wp_round m K c (.inl 2) p.val (dut_ld 2 _ p.isLt) O hO rfl rfl kk Q)
  isplitr; · iexact HC
  isplitl [HO]; · iexact HO
  isplitl [Hc]; · iexact Hc
  isplitl [Hat]; · iexact Hat
  rw [payK_dy]; unfold dyPay
  iintro ⟨HO, Hat, Hr, Hdv, Hs⟩
  iapply Hk
  isplitl [HO]; · iexact HO
  isplitl [Hdv]; · iexact Hdv
  isplitl [HA Hs]
  · iapply (A0_split m c p).2
    isplitl [Hs]; · iexact Hs
    iexact HA
  isplitl [Hat]; · iexact Hat
  iexact Hr

/-! ## The rows of `W` -/

abbrev wC (c : Dev nD) (n : ℕ) : GSem nD τ sig := ldC c (par3 (par n))

def wIdle (c : Dev nD) (n : ℕ) : sProp 𝕄 :=
  iprop((∃ f, Pt c (wSlot (par n)) fullShare f) ∗ A1 m c (par n) ∗ atPos ER (wC c n) (n / 2) ∅ 0 ∗ reached ER (wC c n) (n / 2))
def wFlight (c : Dev nD) (g : Fin 16) : sProp 𝕄 :=
  iprop(A1rest m c g ∗ cred (tallyAt (wC c g.val) () NW) ∗ atPos ER (wC c g.val) (g.val / 2) ∅ 0)
def wLoaded (c : Dev nD) (g : Fin 16) : sProp 𝕄 :=
  iprop(Pt c (wSlot (par g.val)) fullShare (WF m c g) ∗ A1 m c (par g.val) ∗ atPos ER (wC c g.val) (g.val / 2 + 1) ∅ 0 ∗ reached ER (wC c g.val) (g.val / 2 + 1))
def wTok (c : Dev nD) (g : Fin 16) : sProp 𝕄 := dutyTok ER (wC c g.val) (g.val / 2) false

theorem par3_ne (s : Fin 2) : par3 s ≠ 2 := by revert s; decide
theorem dut_w (g : Fin 16) : dutK (.inr (.inl (par3 (par g.val)))) (g.val / 2) = {false} :=
  dut_ld _ _ (by rw [if_neg (par3_ne _)]; have := g.isLt; omega)
theorem amt_w (s : Fin 2) : amtK (.inr (.inl (par3 s))) = NW := by unfold amtK; exact if_neg (par3_ne _)
theorem payK_w (c : Dev nD) (g : Fin 16) : payK (F := F) m c (.inr (.inl (par3 (par g.val)))) (g.val / 2) false = wPay m c g := by
  show (if par3 (par g.val) = 2 then dyPay m c (par (g.val / 2)) else wPay m c (stepAt (par g.val).val (g.val / 2))) = _
  rw [if_neg (par3_ne _), stepAt_eq]

omit [FloatOps F] in
theorem wLoaded_idle (c : Dev nD) (g : Fin 16) : wLoaded m c g ⊢ wIdle m c (g.val + 2) := by
  unfold wLoaded wIdle
  have hc : wC c (g.val + 2) = wC c g.val := by show ldC c (par3 (par (g.val + 2))) = _; rw [par_add_two]
  rw [hc, par_add_two, show (g.val + 2) / 2 = g.val / 2 + 1 by omega]
  iintro ⟨H1, H2, H3, H4⟩
  isplitl [H1]; · iexists _; iexact H1
  isplitl [H2]; · iexact H2
  isplitl [H3]; · iexact H3
  iexact H4

theorem wp_wStart (c : Dev nD) (g : Fin 16) (kk : PG F) (Q : PUnit → sProp 𝕄) :
    iprop(Ctx m K ∗ wIdle m c g.val ∗ wTok (F := F) c g ∗ (wFlight m c g -∗ WP c kk Q)) ⊢ WP c (wStart g kk) Q := by
  unfold wStart wIdle wTok wFlight
  iintro ⟨#HC, ⟨⟨%f, Hwb⟩, HA, Hat, #Hr⟩, Ht, Hk⟩
  ihave HA' := (A1_split m c g).1 $$ HA
  icases HA' with ⟨Hs, HA⟩
  iapply (Rounds.wp_copy_pointsTo 𝒱₀ ER (Rd m) (c : Thread nD τ) none (κ := K (c, .inr (.inl (par3 (par g.val))))) (r := g.val / 2) (d := false) (fd := f)
      (q := half (par g.val)) (fs := m ((c : Thread nD τ).loc main_arg1))
      (by show false ∈ (Rd m).duties (kcell (c, .inr (.inl (par3 (par g.val))))) (g.val / 2); rw [Rd_duties, dut_w]; exact Finset.mem_singleton_self _)
      () NW rfl ((Rd_amount m c (.inr (.inl (par3 (par g.val)))) (g.val / 2) false).trans (amt_w _))
      (by
        show _ ⊢ (Rd m).payload (kcell (c, .inr (.inl (par3 (par g.val))))) (g.val / 2) false
        rw [Rd_payload, payK_w]
        unfold wPay
        exact sep_mono_left (Entails.of_eq (Pt_write c (wSlot (par g.val)) fullShare f (WF m c g) _ (View.read_write_univ _ _))))) $$ [Hwb Hs Ht]
  · isplitr; · iapply (Ctx_inv m K (c, .inr (.inl (par3 (par g.val))))); iexact HC
    isplitl [Hs]; · iexact Hs
    isplitl [Hwb]; · iexact Hwb
    isplitl [Ht]; · iexact Ht
    iexact Hr
  iintro Hc
  iapply Hk
  isplitl [HA]; · iexact HA
  isplitl [Hc]; · iexact Hc
  iexact Hat

theorem wp_wWait (c : Dev nD) (g : Fin 16) (O : CellTallies nD τ sig Unit) (hO : Above 0 O) (kk : PG F) (Q : PUnit → sProp 𝕄) :
    iprop(Ctx m K ∗ Ows c O ∗ wFlight m c g ∗ ((Ows c O ∗ wLoaded m c g) -∗ WP c kk Q)) ⊢ WP c (wWait g kk) Q := by
  unfold wWait wFlight wLoaded
  iintro ⟨#HC, HO, ⟨HA, Hc, Hat⟩, Hk⟩
  iapply (wp_round m K c (.inl (par3 (par g.val))) (g.val / 2) (dut_w g) O hO rfl (by rw [amt_w]) kk Q)
  isplitr; · iexact HC
  isplitl [HO]; · iexact HO
  rw [amt_w]
  isplitl [Hc]; · iexact Hc
  isplitl [Hat]; · iexact Hat
  rw [payK_w]; unfold wPay
  iintro ⟨HO, Hat, Hr, Hwb, Hs⟩
  iapply Hk
  isplitl [HO]; · iexact HO
  isplitl [Hwb]; · iexact Hwb
  isplitl [HA Hs]
  · iapply (A1_split m c g).2
    isplitl [Hs]; · iexact Hs
    iexact HA
  isplitl [Hat]; · iexact Hat
  iexact Hr

/-! ## The products -/

def pFree (c : Dev nD) (n : ℕ) : sProp 𝕄 := iprop(∃ f, Pt (F := F) c (pSlot (par n)) fullShare f)
def pSent (c : Dev nD) (g : Fin 16) : sProp 𝕄 :=
  iprop(Pt c (pSlot (par g.val)) fullShare.right (PF m c g) ∗ cred (tallyAt (xC c 0 g) () NA) ∗ atPos ER (xC c 0 g) 0 ∅ 0)
def aTodo (c : Dev nD) (g : Fin 16) : sProp 𝕄 :=
  iprop(cAny (F := F) (px c) g ∗ dutyTok ER (xC c 0 g) 0 false ∗ dutyTok ER (xC (px c) 1 g) 0 false ∗ atPos ER (xC c 0 g) 0 ∅ 0)
def aDone (c : Dev nD) (g : Fin 16) : sProp 𝕄 := atPos ER (xC c 0 g) 1 ∅ 0

omit [FloatOps F] in
theorem Pt_halves (c : Dev nD) {sp : Space} {s : Shape} (v : Memref sig .tc sp s .f32) (f : Buf (Elt F) (v.view.loc (c : Thread nD τ))) :
    Pt c v fullShare f ⊣⊢ iprop(Pt c v fullShare.left f ∗ Pt c v fullShare.right f) :=
  pointsTo_share (PosShare.mem_left_op_right fullShare)

theorem amt_a (j : Fin 4) (g : Fin 16) (h : j.val < 2) : amtK (.inr (.inr (j, g))) = NA := by unfold amtK; exact if_pos h
theorem amt_b (j : Fin 4) (g : Fin 16) (h : ¬ j.val < 2) : amtK (.inr (.inr (j, g))) = NB := by unfold amtK; exact if_neg h

theorem wp_aSendWait (c : Dev nD) (g : Fin 16) (O : CellTallies nD τ sig Unit) (hO : Above 0 O) (kk : PG F) (Q : PUnit → sProp 𝕄) :
    iprop(Ctx m K ∗ Ows c O ∗ pSent m c g ∗ ((Ows c O ∗ pFree (F := F) c g.val ∗ aDone (F := F) c g) -∗ WP c kk Q)) ⊢ WP c (aSendWait g kk) Q := by
  unfold aSendWait pSent pFree aDone
  iintro ⟨#HC, HO, ⟨HP, Hc, Hat⟩, Hk⟩
  iapply (wp_round m K c (.inr (0, g)) 0 (dut_x 0 g) O hO rfl (by rw [amt_a 0 g (by decide)]) kk Q)
  isplitr; · iexact HC
  isplitl [HO]; · iexact HO
  rw [amt_a 0 g (by decide)]
  isplitl [Hc]; · iexact Hc
  isplitl [Hat]; · iexact Hat
  rw [show payK (F := F) m c (.inr (.inr (0, g))) 0 false = aSendPay m c g from rfl]; unfold aSendPay
  iintro ⟨HO, Hat, -, HP'⟩
  iapply Hk
  isplitl [HO]; · iexact HO
  isplitl [HP HP']
  · iexists (PF m c g)
    iapply (Pt_halves c (pSlot (par g.val)) (PF m c g)).2
    isplitl [HP'] <;> iassumption
  iexact Hat

omit [FloatOps F] in
theorem pSlot_set (s : Fin 2) : (pbM.access (pbR s)).set = (pSlot s).view.set := (View.set_reshape _ _).symm
omit [FloatOps F] in
theorem wSlot_set (s : Fin 2) : (wbM.access (wbR s)).set = (wSlot s).view.set := (View.set_reshape _ _).symm
omit [FloatOps F] in
theorem cSlot_set (g : Fin 16) : (cmM.access (cmR g)).set = (cSlot g).view.set := (View.set_reshape _ _).symm
omit [FloatOps F] in
theorem hz : (![0, 0] : Fin 2 → Nat) = fun _ => 0 := funext fun a => by fin_cases a <;> rfl

omit [FloatOps F] in
theorem PF_store (c : Dev nD) (s : Fin 2) (f b : (cc0_scratch2 : Ref sig .tc).ty.Contents (Elt F)) (w : S1x512x256.Idx → Elt F .f32) :
    ((c : Thread nD τ).loc cc0_scratch2 ↦[(pSlot s).view.set]{fullShare} (pbM.access (pbR s)).write (Elt F) f w Finset.univ : sProp 𝕄)
      = (c : Thread nD τ).loc cc0_scratch2 ↦[(pSlot s).view.set]{fullShare} (pbM.access (pbR s)).write (Elt F) b w Finset.univ := by
  rw [← pSlot_set]
  have h := View.write_read_eq_piecewise (v := pbM.access (pbR s)) (Val := Elt F) f ((pbM.access (pbR s)).write (Elt F) b w Finset.univ) Finset.univ
  rw [View.read_write_univ] at h
  rw [h]
  exact pointsTo_congr fun i hi => Finset.piecewise_eq_of_mem _ _ _ hi

theorem wp_dot (c : Dev nD) (g : Fin 16) (kk : PG F) (Q : PUnit → sProp 𝕄) :
    iprop(Pt c dvM fullShare (dyV m c (panel g)) ∗ Pt c (wSlot (par g.val)) fullShare (WF m c g) ∗ pFree (F := F) c g.val
        ∗ ((Pt c dvM fullShare (dyV m c (panel g)) ∗ Pt c (wSlot (par g.val)) fullShare (WF m c g) ∗ Pt c (pSlot (par g.val)) fullShare (PF m c g)) -∗ WP c kk Q))
      ⊢ WP c (dot g kk) Q := by
  unfold dot pFree
  iintro ⟨Hdv, Hwb, ⟨%f, Hpb⟩, Hk⟩
  iapply (wp_load 𝒱₀ (c : Thread nD τ) none Set.univ (m := dvM) (by rw [View.set_whole]; exact Finset.subset_univ _)) $$ Hdv; iintro Hdv
  rw [show (dvM : Memref sig .tc .vmem S512x8192 .f32).view.readAt (Elt F) (Rect.unit (s := S512x8192) ![0, 0] S512x8192.size inb_S512x8192_S512x8192_0_0).toLoadRect (dyV m c (panel g)) = dyV m c (panel g)
    from Memref.readAt_unit_zero (Elt F) cc0_scratch0 hz _ _]
  iapply (wp_load_rect 𝒱₀ (c : Thread nD τ) none Set.univ (m := wbM) (r := wbR (par g.val)) (S := (wSlot (par g.val)).view.set) (by rw [wSlot_set])) $$ Hwb; iintro Hwb
  iapply (wp_load_rect 𝒱₀ (c : Thread nD τ) none Set.univ (m := pbM) (r := pbR (par g.val)) (S := (pSlot (par g.val)).view.set) (by rw [pSlot_set])) $$ Hpb; iintro Hpb
  iapply (wp_store 𝒱₀ (c : Thread nD τ) none Set.univ (m := pbM) (r := pbR (par g.val)) (Mk := Finset.univ) (S := (pSlot (par g.val)).view.set) (by rw [View.setOn_univ, pSlot_set])) $$ Hpb; iintro Hpb
  ihave Hpb := (Entails.of_eq (PF_store c (par g.val) f (m ((c : Thread nD τ).loc cc0_scratch2)) _)) $$ Hpb
  iapply Hk
  isplitl [Hdv]; · iexact Hdv
  isplitl [Hwb]; · iexact Hwb
  iexact Hpb

theorem wp_aStart (c : Dev nD) (g : Fin 16) (O : CellTallies nD τ sig Unit) (kk : PG F) (Q : PUnit → sProp 𝕄) :
    iprop(Ctx m K ∗ Ows c (O + tallyAt (xC (px c) 1 g) () NA) ∗ Pt c (pSlot (par g.val)) fullShare (PF m c g) ∗ aTodo (F := F) c g
        ∗ ((Ows c O ∗ pSent m c g) -∗ WP c kk Q)) ⊢ WP c (aStart c g kk) Q := by
  unfold aStart aTodo pSent cAny Ows
  iintro ⟨#HC, ⟨%W, HO⟩, Hp, ⟨⟨%f, Hcm⟩, Ht0, Ht1, Hat⟩, Hk⟩
  ihave Hp' := (Pt_halves c (pSlot (par g.val)) (PF m c g)).1 $$ Hp
  icases Hp' with ⟨Hl, Hr⟩
  iapply (Rounds.wp_send_pointsTo 𝒱₀ ER (Rd m) (c : Thread nD τ) none (κ₁ := K (c, .inr (.inr (0, g)))) (κ₂ := K (px c, .inr (.inr (1, g))))
    (r₁ := 0) (r₂ := 0) (d₁ := false) (d₂ := false) (fs := PF m c g) (fd := f) (q := fullShare.left)
    (by show false ∈ (Rd m).duties (kcell (c, .inr (.inr (0, g)))) 0; rw [Rd_duties, dut_x]; exact Finset.mem_singleton_self _)
    (by show false ∈ (Rd m).duties (kcell (px c, .inr (.inr (1, g)))) 0; rw [Rd_duties, dut_x]; exact Finset.mem_singleton_self _)
    () () NA rfl ((Rd_amount m c (.inr (.inr (0, g))) 0 false).trans (amt_a 0 g (by decide)))
    ((Rd_amount m (px c) (.inr (.inr (1, g))) 0 false).trans (amt_a 1 g (by decide))) O rfl (W := W)
    (by show _ ⊢ (Rd m).payload (kcell (c, .inr (.inr (0, g)))) 0 false; rw [Rd_payload]; exact BI.Entails.refl _)
    (by
      show _ ⊢ (Rd m).payload (kcell (px c, .inr (.inr (1, g)))) 0 false
      rw [Rd_payload, show payK (F := F) m (px c) (.inr (.inr (1, g))) 0 false = aRecvPay m (px c) g from rfl]
      unfold aRecvPay
      exact Entails.of_eq (Pt_write (px c) (cSlot g) fullShare f (CF m (px c) g) _ (by
        unfold CF; rw [px_px]; exact View.read_write_univ _ _)))) $$ [HO Hl Hcm Ht0 Ht1]
  · isplitr; · iapply (Ctx_inv m K (c, .inr (.inr (0, g)))); iexact HC
    isplitr; · iapply (Ctx_inv m K (px c, .inr (.inr (1, g)))); iexact HC
    isplitl [Hl]; · iexact Hl
    isplitl [Hcm]; · iexact Hcm
    isplitl [HO]; · iexact HO
    isplitl [Ht0]; · iexact Ht0
    isplitr; · iapply (Ctx_r0 m K (c, .inr (.inr (0, g)))); iexact HC
    isplitl [Ht1]; · iexact Ht1
    iapply (Ctx_r0 m K (px c, .inr (.inr (1, g)))); iexact HC
  iintro ⟨Hc, HO⟩
  iapply Hk
  isplitl [HO]; · iexists W; iexact HO
  isplitl [Hr]; · iexact Hr
  isplitl [Hc]; · iexact Hc
  iexact Hat

/-! ## The sums -/

def rTodo (c : Dev nD) (g : Fin 16) : sProp 𝕄 :=
  iprop(atPos ER (xC c 1 g) 0 ∅ 0 ∗ cred (tallyAt (xC c 1 g) () NA) ∗ oAny (F := F) c c g ∗ oAny (F := F) (py c) c g
    ∗ dutyTok ER (xC c 2 g) 0 false ∗ dutyTok ER (xC (py c) 3 g) 0 false
    ∗ atPos ER (xC c 2 g) 0 ∅ 0 ∗ atPos ER (xC c 3 g) 0 ∅ 0 ∗ cred (tallyAt (xC c 3 g) () NB))
def bTodo (c : Dev nD) (g : Fin 16) : sProp 𝕄 :=
  iprop(atPos ER (xC c 1 g) 1 ∅ 0 ∗ Pt c (cSlot g) fullShare (CF m c g) ∗ cred (tallyAt (xC c 2 g) () NB)
    ∗ atPos ER (xC c 2 g) 0 ∅ 0 ∗ atPos ER (xC c 3 g) 0 ∅ 0 ∗ cred (tallyAt (xC c 3 g) () NB))
def bDone (c : Dev nD) (g : Fin 16) : sProp 𝕄 :=
  iprop(atPos ER (xC c 1 g) 1 ∅ 0 ∗ Pt c (cSlot g) fullShare (CF m c g) ∗ atPos ER (xC c 2 g) 1 ∅ 0 ∗ atPos ER (xC c 3 g) 1 ∅ 0
    ∗ Pt c (oSl c g) fullShare (OutF m c) ∗ Pt c (oSl (py c) g) fullShare (OutF m c))

omit [FloatOps F] in
theorem oSl_set (c : Dev nD) (g : Fin 16) : (oM.access (oR c g)).set = (oSl c g).view.set := rfl

theorem out_store (c : Dev nD) (g : Fin 16) (f : (cc0_stg0_0 : Ref sig .tc).ty.Contents (Elt F)) :
    ((c : Thread nD τ).loc cc0_stg0_0 ↦[(oSl c g).view.set]{fullShare} (oM.access (oR c g)).write (Elt F) f (red m c g) Finset.univ : sProp 𝕄)
      = Pt c (oSl c g) fullShare (OutF m c) :=
  Pt_write c (oSl c g) fullShare f (OutF m c) (red m c g) (OutF_read m c c (.inl rfl) g)

theorem out_store' (c : Dev nD) (g : Fin 16) (f : (cc0_stg0_0 : Ref sig .tc).ty.Contents (Elt F)) :
    ((oM.access (oR c g)).loc (c : Thread nD τ) ↦[(oSl c g).view.set]{fullShare} (oM.access (oR c g)).write (Elt F) f
        (k0_pay3 ((pbM.access (pbR (par g.val))).read (Elt F) (PF m c g)) ((cmM.access (cmR g)).read (Elt F) (CF m c g))) Finset.univ : sProp 𝕄)
      ⊢ Pt c (oSl c g) fullShare (OutF m c) := Entails.of_eq (out_store m c g f)

theorem wp_reduce (c : Dev nD) (g : Fin 16) (O : CellTallies nD τ sig Unit) (hO : Above (2 + 2 * g.val) (O + tallyAt (xC (py c) 3 g) () NB))
    (kk : PG F) (Q : PUnit → sProp 𝕄) :
    iprop(Ctx m K ∗ Ows c (O + tallyAt (xC (py c) 3 g) () NB) ∗ pSent m c g ∗ rTodo (F := F) c g
        ∗ ((Ows c O ∗ pSent m c g ∗ bTodo m c g) -∗ WP c kk Q)) ⊢ WP c (reduce c g kk) Q := by
  unfold reduce pSent rTodo bTodo oAny
  iintro ⟨#HC, HO, ⟨Hp, Hcs, Hats⟩, ⟨Hat1, Hc1, ⟨%fo, Ho⟩, ⟨%fp, Hop⟩, Ht2, Ht3, Hat2, Hat3, Hc3⟩, Hk⟩
  iapply (wp_round m K c (.inr (1, g)) 0 (dut_x 1 g) (O + tallyAt (xC (py c) 3 g) () NB) hO rfl (by rw [amt_a 1 g (by decide)]) _ Q)
  isplitr; · iexact HC
  isplitl [HO]; · iexact HO
  rw [amt_a 1 g (by decide)]
  isplitl [Hc1]; · iexact Hc1
  isplitl [Hat1]; · iexact Hat1
  rw [show payK (F := F) m c (.inr (.inr (1, g))) 0 false = aRecvPay m c g from rfl]; unfold aRecvPay Ows
  iintro ⟨⟨%W, HO⟩, Hat1, -, Hcm⟩
  iapply (wp_load_rect 𝒱₀ (c : Thread nD τ) none Set.univ (m := pbM) (r := pbR (par g.val)) (S := (pSlot (par g.val)).view.set) (by rw [pSlot_set])) $$ Hp; iintro Hp
  iapply (wp_load_rect 𝒱₀ (c : Thread nD τ) none Set.univ (m := cmM) (r := cmR g) (S := (cSlot g).view.set) (by rw [cSlot_set])) $$ Hcm; iintro Hcm
  iapply (wp_load_rect 𝒱₀ (c : Thread nD τ) none Set.univ (m := oM) (r := oR c g) (S := (oSl c g).view.set) (by rw [oSl_set])) $$ Ho; iintro Ho
  iapply (wp_store 𝒱₀ (c : Thread nD τ) none Set.univ (m := oM) (r := oR c g) (Mk := Finset.univ) (S := (oSl c g).view.set) (by rw [View.setOn_univ, oSl_set])) $$ Ho; iintro Ho
  ihave Ho := (out_store' m c g fo) $$ Ho
  iapply (Rounds.wp_send_pointsTo 𝒱₀ ER (Rd m) (c : Thread nD τ) none (κ₁ := K (c, .inr (.inr (2, g)))) (κ₂ := K (py c, .inr (.inr (3, g))))
    (r₁ := 0) (r₂ := 0) (d₁ := false) (d₂ := false) (fs := OutF m c) (fd := fp) (q := fullShare)
    (by show false ∈ (Rd m).duties (kcell (c, .inr (.inr (2, g)))) 0; rw [Rd_duties, dut_x]; exact Finset.mem_singleton_self _)
    (by show false ∈ (Rd m).duties (kcell (py c, .inr (.inr (3, g)))) 0; rw [Rd_duties, dut_x]; exact Finset.mem_singleton_self _)
    () () NB rfl ((Rd_amount m c (.inr (.inr (2, g))) 0 false).trans (amt_b 2 g (by decide)))
    ((Rd_amount m (py c) (.inr (.inr (3, g))) 0 false).trans (amt_b 3 g (by decide))) O rfl (W := W)
    (by show _ ⊢ (Rd m).payload (kcell (c, .inr (.inr (2, g)))) 0 false; rw [Rd_payload]; exact BI.Entails.refl _)
    (by
      show _ ⊢ (Rd m).payload (kcell (py c, .inr (.inr (3, g)))) 0 false
      rw [Rd_payload, show payK (F := F) m (py c) (.inr (.inr (3, g))) 0 false = bRecvPay m (py c) g from rfl]
      unfold bRecvPay
      rw [py_py]
      exact Entails.of_eq (Pt_write (py c) (oSl c g) fullShare fp (OutF m (py c)) _ (by
        rw [OutF_read m (py c) c (.inr (py_py c).symm) g, OutF_read m c c (.inl rfl) g])))) $$ [HO Ho Hop Ht2 Ht3]
  · isplitr; · iapply (Ctx_inv m K (c, .inr (.inr (2, g)))); iexact HC
    isplitr; · iapply (Ctx_inv m K (py c, .inr (.inr (3, g)))); iexact HC
    isplitl [Ho]; · iexact Ho
    isplitl [Hop]; · iexact Hop
    isplitl [HO]; · iexact HO
    isplitl [Ht2]; · iexact Ht2
    isplitr; · iapply (Ctx_r0 m K (c, .inr (.inr (2, g)))); iexact HC
    isplitl [Ht3]; · iexact Ht3
    iapply (Ctx_r0 m K (py c, .inr (.inr (3, g)))); iexact HC
  iintro ⟨Hc2, HO⟩
  iapply Hk
  isplitl [HO]; · iexists W; iexact HO
  isplitl [Hp Hcs Hats]
  · isplitl [Hp]; · iexact Hp
    isplitl [Hcs] <;> iassumption
  isplitl [Hat1]; · iexact Hat1
  isplitl [Hcm]; · iexact Hcm
  isplitl [Hc2]; · iexact Hc2
  isplitl [Hat2]; · iexact Hat2
  isplitl [Hat3] <;> iassumption

theorem wp_bWait (c : Dev nD) (g : Fin 16) (kk : PG F) (Q : PUnit → sProp 𝕄) :
    iprop(Ctx m K ∗ Ows c 0 ∗ bTodo m c g ∗ ((Ows c 0 ∗ bDone m c g) -∗ WP c kk Q)) ⊢ WP c (bWait c g kk) Q := by
  unfold bWait bTodo bDone
  iintro ⟨#HC, HO, ⟨Hat1, Hcm, Hc2, Hat2, Hat3, Hc3⟩, Hk⟩
  iapply (wp_round m K c (.inr (2, g)) 0 (dut_x 2 g) 0 (Above.zero _) rfl (by rw [amt_b 2 g (by decide)]) _ Q)
  isplitr; · iexact HC
  isplitl [HO]; · iexact HO
  rw [amt_b 2 g (by decide)]
  isplitl [Hc2]; · iexact Hc2
  isplitl [Hat2]; · iexact Hat2
  rw [show payK (F := F) m c (.inr (.inr (2, g))) 0 false = bSendPay m c g from rfl]; unfold bSendPay
  iintro ⟨HO, Hat2, -, Hb2⟩
  iapply (wp_round m K c (.inr (3, g)) 0 (dut_x 3 g) 0 (Above.zero _) rfl (by rw [amt_b 3 g (by decide)]) _ Q)
  isplitr; · iexact HC
  isplitl [HO]; · iexact HO
  rw [amt_b 3 g (by decide)]
  isplitl [Hc3]; · iexact Hc3
  isplitl [Hat3]; · iexact Hat3
  rw [show payK (F := F) m c (.inr (.inr (3, g))) 0 false = bRecvPay m c g from rfl]; unfold bRecvPay
  iintro ⟨HO, Hat3, -, Hb3⟩
  iapply Hk
  isplitl [HO]; · iexact HO
  isplitl [Hat1]; · iexact Hat1
  isplitl [Hcm]; · iexact Hcm
  isplitl [Hat2]; · iexact Hat2
  isplitl [Hat3]; · iexact Hat3
  isplitl [Hb2]; · iexact Hb2
  iexact Hb3

end Cert.KernelIdealProof

end
-- ==== Proof.KernelIdealBody.lean ====
/-
# `Body`: the pipeline, step after step

The state of device `c` before step `g` (`Inv`), the step from one to the next, the prologue that establishes it and the
drain that ends it.
-/
module

public import proofs.«01_k».proof.Proof.KernelIdealSteps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × KC → ℕ)

/-! ## What is left to do, and what is done -/

/-- `Φ` of every step from `a` on, -/
def todo (a : ℕ) (Φ : Fin 16 → sProp 𝕄) : sProp 𝕄 := bigSep (Finset.univ.filter (fun g : Fin 16 => a ≤ g.val)) Φ
/-- and of every step before `a`. -/
def done (a : ℕ) (Φ : Fin 16 → sProp 𝕄) : sProp 𝕄 := bigSep (Finset.univ.filter (fun g : Fin 16 => g.val < a)) Φ

omit [FloatOps F] in
theorem todo_take (a : Fin 16) (Φ : Fin 16 → sProp 𝕄) : todo a.val Φ = iprop(Φ a ∗ todo (a.val + 1) Φ) := by
  unfold todo; rw [filter_step, bigSep_insert (filter_step_notMem a)]; rfl
omit [FloatOps F] in
theorem done_put (a : Fin 16) (Φ : Fin 16 → sProp 𝕄) : done (a.val + 1) Φ = iprop(Φ a ∗ done a.val Φ) := by
  unfold done
  rw [show Finset.univ.filter (fun g : Fin 16 => g.val < a.val + 1) = insert a (Finset.univ.filter (fun g : Fin 16 => g.val < a.val)) by
      ext g; simp only [Finset.mem_filter, Finset.mem_univ, true_and, Finset.mem_insert, Fin.ext_iff]; omega,
    bigSep_insert (by simp only [Finset.mem_filter, Finset.mem_univ, true_and]; omega)]
  rfl
omit [FloatOps F] in
theorem todo_zero (Φ : Fin 16 → sProp 𝕄) : todo 0 Φ = bigSep Finset.univ Φ := by
  unfold todo; congr 1
omit [FloatOps F] in
theorem todo_end (a : ℕ) (h : 16 ≤ a) (Φ : Fin 16 → sProp 𝕄) : todo a Φ = iprop(emp) := by
  unfold todo; rw [filter_end a h]; rfl
omit [FloatOps F] in
theorem done_zero (Φ : Fin 16 → sProp 𝕄) : done 0 Φ = iprop(emp) := by
  unfold done
  rw [show Finset.univ.filter (fun g : Fin 16 => g.val < 0) = ∅ by
    ext g; simp only [Finset.mem_filter, Finset.mem_univ, true_and, Finset.notMem_empty, iff_false]; omega]
  rfl
omit [FloatOps F] in
theorem done_end (Φ : Fin 16 → sProp 𝕄) : done 16 Φ = bigSep Finset.univ Φ := by
  unfold done; congr 1

/-! ## The state between two steps -/

def DS (c : Dev nD) (n : ℕ) : sProp 𝕄 :=
  if n = 0 then iprop(dFlight m c 0 ∗ dTok (F := F) c 1)
  else if n < 8 then iprop(dLoaded m c 0 ∗ dTok (F := F) c 1)
  else if n = 8 then dFlight m c 1
  else dLoaded m c 1
/-- Within a step, its panel loaded. -/
def DM (c : Dev nD) (n : ℕ) : sProp 𝕄 := if n < 8 then iprop(dLoaded m c 0 ∗ dTok (F := F) c 1) else dLoaded m c 1
def WX (c : Dev nD) (n : ℕ) : sProp 𝕄 := if h : n < 16 then wFlight m c ⟨n, h⟩ else wIdle m c n
def WS (c : Dev nD) (n : ℕ) : sProp 𝕄 := iprop(WX m c n ∗ wIdle m c (n + 1) ∗ todo (n + 1) (wTok (F := F) c))
def Pst (c : Dev nD) (n : ℕ) : sProp 𝕄 := if h : 2 ≤ n ∧ n < 18 then pSent m c ⟨n - 2, by omega⟩ else pFree (F := F) c n

def Inv (c : Dev nD) (n : ℕ) : sProp 𝕄 :=
  iprop(Ows c (OA c n + OB c (n - 1)) ∗ DS m c n ∗ WS m c n ∗ Pst m c n ∗ Pst m c (n + 1)
    ∗ todo n (aTodo (F := F) c) ∗ todo (n - 1) (rTodo (F := F) c) ∗ done (n - 2) (aDone (F := F) c) ∗ done (n - 1) (bTodo m c))

omit [FloatOps F] in
theorem whenP_pos {p : Prop} [Decidable p] [FloatOps F] (e : p → PG F → PG F) (k : PG F) (h : p) : whenP e k = e h k := dif_pos h
omit [FloatOps F] in
theorem whenP_neg {p : Prop} [Decidable p] [FloatOps F] (e : p → PG F → PG F) (k : PG F) (h : ¬ p) : whenP e k = k := dif_neg h

theorem st_dyWait (c : Dev nD) (g : Fin 16) (O : CellTallies nD τ sig Unit) (hO : Above 0 O) (kk : PG F) (Q : PUnit → sProp 𝕄) :
    iprop(Ctx m K ∗ Ows c O ∗ DS m c g.val ∗ ((Ows c O ∗ DM m c g.val) -∗ WP c kk Q))
      ⊢ WP c (whenP (p := g.val % 8 = 0) (fun _ => dyWait c (panel g)) kk) Q := by
  by_cases h : g.val % 8 = 0
  · rw [whenP_pos _ _ h]
    have hg := g.isLt
    rcases (by omega : g.val = 0 ∨ g.val = 8) with h0 | h8
    · have hp : panel g = 0 := Fin.ext (by show g.val / 8 = 0; omega)
      rw [hp]; unfold DS DM
      rw [if_pos h0, if_pos (by omega)]
      iintro ⟨#HC, HO, ⟨Hd, Ht⟩, Hk⟩
      iapply (wp_dyWait m K c 0 O hO kk Q)
      isplitr; · iexact HC
      isplitl [HO]; · iexact HO
      isplitl [Hd]; · iexact Hd
      iintro ⟨HO, Hd⟩
      iapply Hk
      isplitl [HO]; · iexact HO
      isplitl [Hd]; · iexact Hd
      iexact Ht
    · have hp : panel g = 1 := Fin.ext (by show g.val / 8 = 1; omega)
      rw [hp]; unfold DS DM
      rw [if_neg (by omega), if_neg (by omega), if_pos h8, if_neg (by omega)]
      iintro ⟨#HC, HO, Hd, Hk⟩
      iapply (wp_dyWait m K c 1 O hO kk Q)
      isplitr; · iexact HC
      isplitl [HO]; · iexact HO
      isplitl [Hd]; · iexact Hd
      iexact Hk
  · rw [whenP_neg _ _ h]
    have e : DS m c g.val = DM m c g.val := by
      unfold DS DM
      rw [if_neg (by omega)]
      by_cases h8 : g.val < 8
      · rw [if_pos h8, if_pos h8]
      · rw [if_neg h8, if_neg h8, if_neg (by omega)]
    rw [e]
    iintro ⟨-, HO, Hd, Hk⟩
    iapply Hk
    isplitl [HO] <;> iassumption

theorem st_wStart (c : Dev nD) (g : Fin 16) (kk : PG F) (Q : PUnit → sProp 𝕄) :
    iprop(Ctx m K ∗ WS m c g.val ∗ ((wFlight m c g ∗ WX m c (g.val + 1) ∗ todo (g.val + 2) (wTok (F := F) c)) -∗ WP c kk Q))
      ⊢ WP c (whenP (p := g.val + 1 < 16) (fun h => wStart ⟨g.val + 1, h⟩) kk) Q := by
  unfold WS
  rw [show WX m c g.val = wFlight m c g from dif_pos g.isLt]
  by_cases h : g.val + 1 < 16
  · rw [whenP_pos _ _ h, show WX m c (g.val + 1) = wFlight m c ⟨g.val + 1, h⟩ from dif_pos h,
      show todo (g.val + 1) (wTok (F := F) c) = _ from todo_take ⟨g.val + 1, h⟩ _]
    iintro ⟨#HC, ⟨Hf, Hi, Ht, Hts⟩, Hk⟩
    iapply (wp_wStart m K c ⟨g.val + 1, h⟩ kk Q)
    isplitr; · iexact HC
    isplitl [Hi]; · iexact Hi
    isplitl [Ht]; · iexact Ht
    iintro Hf'
    iapply Hk
    isplitl [Hf]; · iexact Hf
    isplitl [Hf']; · iexact Hf'
    iexact Hts
  · rw [whenP_neg _ _ h, show WX m c (g.val + 1) = wIdle m c (g.val + 1) from dif_neg h,
      todo_end _ (by omega), todo_end _ (by omega)]
    iintro ⟨-, ⟨Hf, Hi, He⟩, Hk⟩
    iapply Hk
    isplitl [Hf]; · iexact Hf
    isplitl [Hi]; · iexact Hi
    iexact He

omit [FloatOps F] in
theorem pFree_two (c : Dev nD) (n : ℕ) : pFree (F := F) c (n + 2) = pFree (F := F) c n := by unfold pFree; rw [par_add_two]

theorem st_aSendWait (c : Dev nD) (g : Fin 16) (O : CellTallies nD τ sig Unit) (hO : Above 0 O) (kk : PG F) (Q : PUnit → sProp 𝕄) :
    iprop(Ctx m K ∗ Ows c O ∗ Pst m c g.val ∗ done (g.val - 2) (aDone (F := F) c)
        ∗ ((Ows c O ∗ pFree (F := F) c g.val ∗ done (g.val - 1) (aDone (F := F) c)) -∗ WP c kk Q))
      ⊢ WP c (whenP (p := 2 ≤ g.val) (fun _ => aSendWait ⟨g.val - 2, by omega⟩) kk) Q := by
  by_cases h : 2 ≤ g.val
  · have hg := g.isLt
    rw [whenP_pos _ _ h, show Pst m c g.val = pSent m c ⟨g.val - 2, by omega⟩ from dif_pos ⟨h, by omega⟩]
    have h2 : g.val - 2 < 16 := by omega
    have e : done (g.val - 1) (aDone (F := F) c) = iprop(aDone (F := F) c ⟨g.val - 2, h2⟩ ∗ done (g.val - 2) (aDone (F := F) c)) := by
      rw [show g.val - 1 = (g.val - 2) + 1 by omega]; exact done_put ⟨g.val - 2, h2⟩ _
    have ep : pFree (F := F) c g.val = pFree (F := F) c (g.val - 2) := by
      conv_lhs => rw [show g.val = (g.val - 2) + 2 by omega]
      exact pFree_two c _
    rw [e, ep]
    iintro ⟨#HC, HO, Hp, Hd, Hk⟩
    iapply (wp_aSendWait m K c ⟨g.val - 2, h2⟩ O hO kk Q)
    isplitr; · iexact HC
    isplitl [HO]; · iexact HO
    isplitl [Hp]; · iexact Hp
    iintro ⟨HO, Hp, Ha⟩
    iapply Hk
    isplitl [HO]; · iexact HO
    isplitl [Hp]; · iexact Hp
    isplitl [Ha] <;> iassumption
  · rw [whenP_neg _ _ h, show Pst m c g.val = pFree (F := F) c g.val from dif_neg (fun h' => h h'.1),
      show g.val - 2 = 0 by omega, show g.val - 1 = 0 by omega]
    iintro ⟨-, HO, Hp, Hd, Hk⟩
    iapply Hk
    isplitl [HO]; · iexact HO
    isplitl [Hp] <;> iassumption

/-- The panel in use, and what puts it back. -/
theorem DM_open (c : Dev nD) (g : Fin 16) :
    DM m c g.val ⊢ iprop(Pt c dvM fullShare (dyV m c (panel g)) ∗ (Pt c dvM fullShare (dyV m c (panel g)) -∗ DM m c g.val)) := by
  have hg := g.isLt
  unfold DM
  by_cases h : g.val < 8
  · rw [if_pos h, show panel g = 0 from Fin.ext (by show g.val / 8 = 0; omega)]
    unfold dLoaded
    iintro ⟨⟨H1, H2⟩, H3⟩
    isplitl [H1]; · iexact H1
    iintro H1
    isplitl [H1 H2]
    · isplitl [H1] <;> iassumption
    iexact H3
  · rw [if_neg h, show panel g = 1 from Fin.ext (by show g.val / 8 = 1; omega)]
    unfold dLoaded
    iintro ⟨H1, H2⟩
    isplitl [H1]; · iexact H1
    iintro H1
    isplitl [H1] <;> iassumption

/-- The rows in use, and what puts them back. -/
theorem wLoaded_open (c : Dev nD) (g : Fin 16) :
    wLoaded m c g ⊢ iprop(Pt c (wSlot (par g.val)) fullShare (WF m c g) ∗ (Pt c (wSlot (par g.val)) fullShare (WF m c g) -∗ wLoaded m c g)) := by
  unfold wLoaded
  iintro ⟨H1, H2⟩
  isplitl [H1]; · iexact H1
  iintro H1
  isplitl [H1] <;> iassumption

theorem st_dyStart (c : Dev nD) (g : Fin 16) (kk : PG F) (Q : PUnit → sProp 𝕄) :
    iprop(Ctx m K ∗ DM m c g.val ∗ (DS m c (g.val + 1) -∗ WP c kk Q))
      ⊢ WP c (whenP (p := g.val = 7) (fun _ => dyStart c 1) kk) Q := by
  have hg := g.isLt
  by_cases h : g.val = 7
  · rw [whenP_pos _ _ h]
    unfold DM DS
    rw [if_pos (by omega), if_neg (by omega), if_neg (by omega), if_pos (by omega)]
    unfold dLoaded
    iintro ⟨#HC, ⟨⟨Hdv, HA, Hat, Hr⟩, Ht⟩, Hk⟩
    iapply (wp_dyStart m K c 1 kk Q)
    isplitr; · iexact HC
    isplitl [Hdv]; · iexists _; iexact Hdv
    isplitl [HA]; · iexact HA
    isplitl [Ht]; · iexact Ht
    isplitl [Hat]; · iexact Hat
    isplitl [Hr]; · iexact Hr
    iexact Hk
  · rw [whenP_neg _ _ h]
    have e : DS m c (g.val + 1) = DM m c g.val := by
      unfold DS DM
      rw [if_neg (by omega)]
      by_cases h8 : g.val < 8
      · rw [if_pos h8, if_pos (by omega)]
      · rw [if_neg h8, if_neg (by omega), if_neg (by omega)]
    rw [e]
    iintro ⟨-, Hd, Hk⟩
    iapply Hk; iexact Hd

theorem Pst_sent (c : Dev nD) (g : Fin 16) : Pst m c (g.val + 2) = pSent m c g :=
  dif_pos ⟨by omega, by have := g.isLt; omega⟩

theorem st_reduce (c : Dev nD) (g : Fin 16) (kk : PG F) (Q : PUnit → sProp 𝕄) :
    iprop(Ctx m K ∗ Ows c (OA c (g.val + 1) + OB c (g.val - 1)) ∗ Pst m c (g.val + 1) ∗ todo (g.val - 1) (rTodo (F := F) c) ∗ done (g.val - 1) (bTodo m c)
        ∗ ((Ows c (OA c (g.val + 1) + OB c g.val) ∗ Pst m c (g.val + 1) ∗ todo g.val (rTodo (F := F) c) ∗ done g.val (bTodo m c)) -∗ WP c kk Q))
      ⊢ WP c (whenP (p := 1 ≤ g.val) (fun _ => reduce c ⟨g.val - 1, by omega⟩) kk) Q := by
  have hg := g.isLt
  by_cases h : 1 ≤ g.val
  · obtain ⟨n, hn⟩ : ∃ n : Fin 16, g.val = n.val + 1 := ⟨⟨g.val - 1, by omega⟩, by show g.val = g.val - 1 + 1; omega⟩
    have hn' : (⟨g.val - 1, by omega⟩ : Fin 16) = n := Fin.ext (by show g.val - 1 = n.val; omega)
    rw [whenP_pos _ _ h, hn', hn, show n.val + 1 - 1 = n.val by omega, show n.val + 1 + 1 = n.val + 2 by omega, Pst_sent, todo_take n, done_put n, OB_step c n, ← add_assoc]
    iintro ⟨#HC, HO, Hp, ⟨Hr, Hrs⟩, Hd, Hk⟩
    iapply (wp_reduce m K c n (OA c (n.val + 2) + OB c (n.val + 1))
      (by rw [add_assoc, ← OB_step]; exact (OA_above c _ _ (by omega)).add (OB_above c _ _ (by omega))) kk Q)
    isplitr; · iexact HC
    isplitl [HO]; · iexact HO
    isplitl [Hp]; · iexact Hp
    isplitl [Hr]; · iexact Hr
    iintro ⟨HO, Hp, Hb⟩
    iapply Hk
    isplitl [HO]; · iexact HO
    isplitl [Hp]; · iexact Hp
    isplitl [Hrs]; · iexact Hrs
    isplitl [Hb] <;> iassumption
  · rw [whenP_neg _ _ h, show g.val - 1 = g.val by omega]
    iintro ⟨-, HO, Hp, Hr, Hd, Hk⟩
    iapply Hk
    isplitl [HO]; · iexact HO
    isplitl [Hp]; · iexact Hp
    isplitl [Hr] <;> iassumption

theorem wp_step (c : Dev nD) (g : Fin 16) (kk : PG F) (Q : PUnit → sProp 𝕄) :
    iprop(Ctx m K ∗ Inv m c g.val ∗ (Inv m c (g.val + 1) -∗ WP c kk Q)) ⊢ WP c (step c g kk) Q := by
  have hO : Above 0 (OA c g.val + OB c (g.val - 1)) := (OA_above c _ _ (by omega)).add (OB_above c _ _ (by omega))
  unfold step Inv
  iintro ⟨#HC, ⟨HO, HD, HW, HP, HP1, HA, HR, HAd, HBd⟩, Hk⟩
  iapply (st_dyWait m K c g _ hO _ Q)
  isplitr; · iexact HC
  isplitl [HO]; · iexact HO
  isplitl [HD]; · iexact HD
  iintro ⟨HO, HD⟩
  iapply (st_wStart m K c g _ Q)
  isplitr; · iexact HC
  isplitl [HW]; · iexact HW
  iintro ⟨HF, HX, HT⟩
  iapply (wp_wWait m K c g _ hO _ Q)
  isplitr; · iexact HC
  isplitl [HO]; · iexact HO
  isplitl [HF]; · iexact HF
  iintro ⟨HO, HL⟩
  iapply (st_aSendWait m K c g _ hO _ Q)
  isplitr; · iexact HC
  isplitl [HO]; · iexact HO
  isplitl [HP]; · iexact HP
  isplitl [HAd]; · iexact HAd
  iintro ⟨HO, HP, HAd⟩
  ihave HD' := (DM_open m c g) $$ HD
  icases HD' with ⟨Hdv, HDk⟩
  ihave HL' := (wLoaded_open m c g) $$ HL
  icases HL' with ⟨Hwb, HL⟩
  iapply (wp_dot m c g _ Q)
  isplitl [Hdv]; · iexact Hdv
  isplitl [Hwb]; · iexact Hwb
  isplitl [HP]; · iexact HP
  iintro ⟨Hdv, Hwb, HP⟩
  ihave HD := HDk $$ Hdv
  ihave HL := HL $$ Hwb
  ihave HI := (wLoaded_idle m c g) $$ HL
  ihave HA := (Entails.of_eq (todo_take g (aTodo (F := F) c))) $$ HA
  rw [OA_step c g, show OA c (g.val + 1) + tallyAt (xC (px c) 1 g) () NA + OB c (g.val - 1) = OA c (g.val + 1) + OB c (g.val - 1) + tallyAt (xC (px c) 1 g) () NA from add_right_comm _ _ _]
  icases HA with ⟨Ha, HA⟩
  iapply (wp_aStart m K c g (OA c (g.val + 1) + OB c (g.val - 1)) _ Q)
  isplitr; · iexact HC
  isplitl [HO]; · iexact HO
  isplitl [HP]; · iexact HP
  isplitl [Ha]; · iexact Ha
  iintro ⟨HO, HP⟩
  iapply (st_dyStart m K c g _ Q)
  isplitr; · iexact HC
  isplitl [HD]; · iexact HD
  iintro HD
  iapply (st_reduce m K c g _ Q)
  isplitr; · iexact HC
  isplitl [HO]; · iexact HO
  isplitl [HP1]; · iexact HP1
  isplitl [HR]; · iexact HR
  isplitl [HBd]; · iexact HBd
  iintro ⟨HO, HP1, HR, HBd⟩
  iapply Hk
  rw [show g.val + 1 - 1 = g.val by omega, show g.val + 1 - 2 = g.val - 1 by omega, show g.val + 1 + 1 = g.val + 2 by omega, Pst_sent]
  isplitl [HO]; · iexact HO
  isplitl [HD]; · iexact HD
  isplitl [HX HI HT]
  · unfold WS
    rw [show g.val + 1 + 1 = g.val + 2 by omega]
    isplitl [HX]; · iexact HX
    isplitl [HI] <;> iassumption
  isplitl [HP1]; · iexact HP1
  isplitl [HP]; · iexact HP
  isplitl [HA]; · iexact HA
  isplitl [HR]; · iexact HR
  isplitl [HAd] <;> iassumption

/-- A run of steps, from the rule of one. -/
theorem wp_steps (c : Dev nD) (I : ℕ → sProp 𝕄) (st : Fin 16 → PG F → PG F) (Q : PUnit → sProp 𝕄)
    (hst : ∀ (g : Fin 16) (kk : PG F), iprop(Ctx m K ∗ I g.val ∗ (I (g.val + 1) -∗ WP c kk Q)) ⊢ WP c (st g kk) Q) :
    ∀ (n g : ℕ) (h : g + n ≤ 16) (kk : PG F),
      iprop(Ctx m K ∗ I g ∗ (I (g + n) -∗ WP c kk Q)) ⊢ WP c (steps st n g h kk) Q
  | 0, g, h, kk => by
    unfold steps
    iintro ⟨-, HI, Hk⟩
    iapply Hk; iexact HI
  | n + 1, g, h, kk => by
    unfold steps
    iintro ⟨#HC, HI, Hk⟩
    iapply (hst ⟨g, _⟩ _)
    isplitr; · iexact HC
    isplitl [HI]; · iexact HI
    iintro HI
    iapply (wp_steps c I st Q hst n (g + 1) _ kk)
    isplitr; · iexact HC
    isplitl [HI]; · iexact HI
    rw [show g + 1 + n = g + (n + 1) by omega]
    iexact Hk

/-! ## The prologue -/

def aTok (c : Dev nD) (g : Fin 16) : sProp 𝕄 :=
  iprop(dutyTok ER (xC c 0 g) 0 false ∗ dutyTok ER (xC (px c) 1 g) 0 false ∗ atPos ER (xC c 0 g) 0 ∅ 0)
def rTok (c : Dev nD) (g : Fin 16) : sProp 𝕄 :=
  iprop(atPos ER (xC c 1 g) 0 ∅ 0 ∗ cred (tallyAt (xC c 1 g) () NA)
    ∗ dutyTok ER (xC c 2 g) 0 false ∗ dutyTok ER (xC (py c) 3 g) 0 false
    ∗ atPos ER (xC c 2 g) 0 ∅ 0 ∗ atPos ER (xC c 3 g) 0 ∅ 0 ∗ cred (tallyAt (xC c 3 g) () NB))

omit [FloatOps F] in
theorem aTodo_all (c : Dev nD) :
    iprop(bigSep Finset.univ (fun g => cAny (F := F) (px c) g) ∗ bigSep Finset.univ (aTok (F := F) c)) ⊢ bigSep Finset.univ (aTodo (F := F) c) :=
  Entails.of_eq (by rw [show (aTodo (F := F) c) = fun g => iprop(cAny (F := F) (px c) g ∗ aTok (F := F) c g) from rfl]; exact (bigSep_sep _ _ _).symm)
omit [FloatOps F] in
theorem rTodo_one (c : Dev nD) (g : Fin 16) :
    iprop(oAny (F := F) (py c) c g ∗ oAny (F := F) c c g ∗ rTok (F := F) c g) ⊢ rTodo (F := F) c g := by
  unfold rTodo rTok
  iintro ⟨H1, H2, H3, H4, H5, H6, H7, H8, H9⟩
  isplitl [H3]; · iexact H3
  isplitl [H4]; · iexact H4
  isplitl [H2]; · iexact H2
  isplitl [H1]; · iexact H1
  isplitl [H5]; · iexact H5
  isplitl [H6]; · iexact H6
  isplitl [H7]; · iexact H7
  isplitl [H8] <;> iassumption
omit [FloatOps F] in
theorem rTodo_all (c : Dev nD) :
    iprop(bigSep Finset.univ (fun g => oAny (F := F) (py c) c g) ∗ bigSep Finset.univ (fun g => oAny (F := F) c c g) ∗ bigSep Finset.univ (rTok (F := F) c))
      ⊢ bigSep Finset.univ (rTodo (F := F) c) := by
  refine Entails.trans (Entails.of_eq ?_) (bigSep_mono fun g _ => rTodo_one c g)
  rw [bigSep_sep', bigSep_sep']

/-- What device `c` starts from: what it owes, its buffers and arguments, its tokens. -/
def Start (c : Dev nD) : sProp 𝕄 :=
  iprop(Ows c (O₀ c)
    ∗ ((∃ f, Pt (F := F) c dvM fullShare f) ∗ A0 m c ∗ atPos ER (ldC c 2) 0 ∅ 0 ∗ dTok (F := F) c 0 ∗ dTok (F := F) c 1)
    ∗ (wIdle m c 0 ∗ wIdle m c 1 ∗ bigSep Finset.univ (wTok (F := F) c))
    ∗ (pFree (F := F) c 0 ∗ pFree (F := F) c 1)
    ∗ bigSep Finset.univ (fun g => cAny (F := F) c g)
    ∗ bigSep Finset.univ (fun g => oAny (F := F) c (py c) g)
    ∗ bigSep Finset.univ (fun g => oAny (F := F) c c g)
    ∗ bigSep Finset.univ (aTok (F := F) c) ∗ bigSep Finset.univ (rTok (F := F) c)
    ∗ dutyTok ER (barC (px c)) 0 false ∗ dutyTok ER (barC (py c)) 0 true
    ∗ cred (tallyAt (barC c) () 2) ∗ atPos ER (barC c) 0 ∅ 0)

theorem bar_duty (c : Dev nD) (d : Bool) : d ∈ (Rd (F := F) m).duties (barC c) 0 := by
  show d ∈ (Rd m).duties (kcell (c, .inl ())) 0
  rw [Rd_duties, show dutK (.inl ()) 0 = Finset.univ from (by unfold dutK; exact if_pos rfl)]; exact Finset.mem_univ _
theorem bar_amount (c : Dev nD) (d : Bool) : (Rd (F := F) m).amount (barC c) 0 d = 1 := Rd_amount m c (.inl ()) 0 d
theorem bar_pay (c : Dev nD) (d : Bool) : (Rd (F := F) m).payload (barC c) 0 d = barPay c d := Rd_payload m c (.inl ()) 0 d

theorem wp_prologue (c : Dev nD) (kk : PG F) (Q : PUnit → sProp 𝕄) :
    iprop(Ctx m K ∗ Start m c ∗ ((Inv m c 0 ∗ atPos ER (barC c) 1 ∅ 0) -∗ WP c kk Q)) ⊢ WP c (prologue c kk) Q := by
  unfold prologue Start
  iintro ⟨#HC, ⟨HO, ⟨Hdv, HA0, HatD, Ht0, Ht1⟩, ⟨HW0, HW1, HWt⟩, ⟨HP0, HP1⟩, Hcm, Hoy, Hoc, Hat, Hrt, Hbx, Hby, Hcb, Hatb⟩, Hk⟩
  iapply (wp_dyStart m K c 0 _ Q)
  isplitr; · iexact HC
  isplitl [Hdv]; · iexact Hdv
  isplitl [HA0]; · iexact HA0
  isplitl [Ht0]; · iexact Ht0
  isplitl [HatD]; · iexact HatD
  isplitr; · iapply (Ctx_r0 m K (c, .inr (.inl 2))); iexact HC
  iintro HD
  ihave HWt := (Entails.of_eq ((todo_zero (wTok (F := F) c)).symm.trans (todo_take 0 (wTok (F := F) c)))) $$ HWt
  icases HWt with ⟨HWt0, HWt⟩
  iapply (wp_wStart m K c 0 _ Q)
  isplitr; · iexact HC
  isplitl [HW0]; · iexact HW0
  isplitl [HWt0]; · iexact HWt0
  iintro HF
  unfold Ows
  icases HO with ⟨%W, HO⟩
  simp only [semSignalWord, semWaitWord, Prog.lift, Prog.bind_op, Prog.bind_ret, Prog.pure_eq_ret]
  iapply (Rounds.wp_signal 𝒱₀ ER (Rd m) (c : Thread nD τ) none (dst := (px c : Thread nD τ)) (κ := K (px c, .inl ())) (r := 0)
      (d := false) (bar_duty m (px c) false) ((bar_amount m (px c) false).trans (by decide)) () (O₁ c + tallyAt (barC (py c)) () 1) rfl)
    $$ [HO Hbx Hcm]
  · isplitr; · iapply (Ctx_inv m K (px c, .inl ())); iexact HC
    isplitl [HO]; · iexact HO
    isplitl [Hbx]; · iexact Hbx
    isplitl [Hcm]
    · rw [bar_pay]; unfold barPay; rw [if_neg Bool.false_ne_true, px_px]; iexact Hcm
    iapply (Ctx_r0 m K (px c, .inl ())); iexact HC
  iintro HO
  iapply (Rounds.wp_signal 𝒱₀ ER (Rd m) (c : Thread nD τ) none (dst := (py c : Thread nD τ)) (κ := K (py c, .inl ())) (r := 0)
      (d := true) (bar_duty m (py c) true) ((bar_amount m (py c) true).trans (by decide)) () (O₁ c) rfl)
    $$ [HO Hby Hoy]
  · isplitr; · iapply (Ctx_inv m K (py c, .inl ())); iexact HC
    isplitl [HO]; · iexact HO
    isplitl [Hby]; · iexact Hby
    isplitl [Hoy]
    · rw [bar_pay]; unfold barPay; rw [if_pos rfl, py_py]; iexact Hoy
    iapply (Ctx_r0 m K (py c, .inl ())); iexact HC
  iintro HO
  iapply (Rounds.wp_wait_rest_token 𝒱₀ ER (Rd m) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hcb HO Hatb]
  · isplitr; · iapply (Ctx_inv m K (c, .inl ())); iexact HC
    isplitl [Hcb]; · iexact Hcb
    isplitl [HO]; · iexact HO
    isplitr
    · iapply (Ctx_wait m K c (.inl ()) (O₁ c) ((OA_above c 0 _ (by show 1 < 2; omega)).add (OB_above c 0 _ (by show 1 < 3; omega)))); iexact HC
    iexact Hatb
  iintro ⟨HO, Hatb, -, Hpay⟩
  ihave Hp := (Entails.of_eq (rest_bar m c)) $$ Hpay
  icases Hp with ⟨Hcx, Hox⟩
  ihave HAt := (aTodo_all c) $$ [Hcx Hat]
  · isplitl [Hcx] <;> iassumption
  ihave HRt := (rTodo_all c) $$ [Hox Hoc Hrt]
  · isplitl [Hox]; · iexact Hox
    isplitl [Hoc] <;> iassumption
  iapply Hk
  unfold Inv Ows O₁
  rw [show (0 : ℕ) - 1 = 0 from rfl, todo_zero, todo_zero, done_zero, done_zero]
  isplitr [Hatb]
  · isplitl [HO]; · iexists _; iexact HO
    isplitl [HD Ht1]
    · unfold DS; rw [if_pos rfl]
      isplitl [HD] <;> iassumption
    isplitl [HF HW1 HWt]
    · unfold WS
      rw [show WX m c 0 = wFlight m c 0 from dif_pos (by decide)]
      isplitl [HF]; · iexact HF
      isplitl [HW1]; · iexact HW1
      iexact HWt
    isplitl [HP0]
    · rw [show Pst m c 0 = pFree (F := F) c 0 from dif_neg (by omega)]; iexact HP0
    isplitl [HP1]
    · rw [show Pst m c (0 + 1) = pFree (F := F) c 1 from dif_neg (by omega)]; iexact HP1
    isplitl [HAt]; · iexact HAt
    isplitl [HRt]; · iexact HRt
    isplitr <;> iempintro
  iexact Hatb

/-! ## The whole program -/

/-- What device `c` holds at the end, its cells still open. -/
def Last (c : Dev nD) : sProp 𝕄 :=
  iprop(Ows c 0 ∗ atPos ER (barC c) 1 ∅ 0 ∗ dLoaded m c 1 ∗ wIdle m c 16 ∗ wIdle m c 17 ∗ pFree (F := F) c 14 ∗ pFree (F := F) c 15
    ∗ bigSep Finset.univ (aDone (F := F) c) ∗ bigSep Finset.univ (bDone m c))

theorem wp_ret_intro (c : Dev nD) (Q : PUnit → sProp 𝕄) : iprop(|={Set.univ}=> Q ⟨⟩) ⊢ WP c (Prog.ret PUnit.unit) Q := Entails.refl _

theorem wp_prog (c : Dev nD) (Q : PUnit → sProp 𝕄) :
    iprop(Ctx m K ∗ Start m c ∗ (Last m c -∗ |={Set.univ}=> Q ⟨⟩)) ⊢ WP c (prog c) Q := by
  unfold prog
  iintro ⟨#HC, HS, Hk⟩
  iapply (wp_prologue m K c _ Q)
  isplitr; · iexact HC
  isplitl [HS]; · iexact HS
  iintro ⟨HI, Hatb⟩
  iapply (wp_steps m K c (Inv m c) (step c) Q (fun g kk => wp_step m K c g kk Q) 16 0 _ _)
  isplitr; · iexact HC
  isplitl [HI]; · iexact HI
  unfold Inv
  rw [show (0 : ℕ) + 16 = 16 from rfl, show (16 : ℕ) - 1 = 15 from rfl, show (16 : ℕ) - 2 = 14 from rfl, todo_end 16 (le_refl _), OA_end, zero_add,
    show OB c 15 = OB c 16 + tallyAt (xC (py c) 3 15) () NB from OB_step c 15, OB_end,
    show todo 15 (rTodo (F := F) c) = _ from todo_take 15 _,
    show Pst m c 16 = pSent m c 14 from Pst_sent m c 14, show Pst m c (16 + 1) = pSent m c 15 from Pst_sent m c 15]
  iintro ⟨HO, HD, HW, HP, HP1, -, ⟨HR, -⟩, HAd, HBd⟩
  iapply (wp_reduce m K c 15 0 (by rw [zero_add]; exact Above.tally (py c) (.inr (.inr (3, 15))) NB (by decide)) _ Q)
  isplitr; · iexact HC
  isplitl [HO]; · iexact HO
  isplitl [HP1]; · iexact HP1
  isplitl [HR]; · iexact HR
  iintro ⟨HO, HP1, HB⟩
  iapply (wp_aSendWait m K c 14 0 (Above.zero _) _ Q)
  isplitr; · iexact HC
  isplitl [HO]; · iexact HO
  isplitl [HP]; · iexact HP
  iintro ⟨HO, HP, HA14⟩
  iapply (wp_aSendWait m K c 15 0 (Above.zero _) _ Q)
  isplitr; · iexact HC
  isplitl [HO]; · iexact HO
  isplitl [HP1]; · iexact HP1
  iintro ⟨HO, HP1, HA15⟩
  ihave HAd := (Entails.of_eq (show iprop(aDone (F := F) c 14 ∗ done 14 (aDone (F := F) c)) = done 15 (aDone (F := F) c) from (done_put 14 _).symm)) $$ [HA14 HAd]
  · isplitl [HA14] <;> iassumption
  ihave HAd := (Entails.of_eq (show iprop(aDone (F := F) c 15 ∗ done 15 (aDone (F := F) c)) = bigSep Finset.univ (aDone (F := F) c) from (done_put 15 _).symm.trans (done_end _))) $$ [HA15 HAd]
  · isplitl [HA15] <;> iassumption
  ihave HBd := (Entails.of_eq (show iprop(bTodo m c 15 ∗ done 15 (bTodo m c)) = todo 0 (bTodo m c) from (done_put 15 _).symm.trans ((done_end _).trans (todo_zero _).symm))) $$ [HB HBd]
  · isplitl [HB] <;> iassumption
  iapply (wp_steps m K c (fun n => iprop(Ows c 0 ∗ todo n (bTodo m c) ∗ done n (bDone m c))) (bWait c) Q (fun g kk => by
    rw [todo_take g, done_put g]
    iintro ⟨#HC, ⟨HO, ⟨Hb, Hbs⟩, Hd⟩, Hk⟩
    iapply (wp_bWait m K c g kk Q)
    isplitr; · iexact HC
    isplitl [HO]; · iexact HO
    isplitl [Hb]; · iexact Hb
    iintro ⟨HO, Hb⟩
    iapply Hk
    isplitl [HO]; · iexact HO
    isplitl [Hbs]; · iexact Hbs
    isplitl [Hb] <;> iassumption) 16 0 _ _)
  isplitr; · iexact HC
  isplitl [HO HBd]
  · isplitl [HO]; · iexact HO
    isplitl [HBd]; · iexact HBd
    rw [done_zero]; iempintro
  rw [show (0 : ℕ) + 16 = 16 from rfl, done_end]
  iintro ⟨HO, -, HBd⟩
  iapply (wp_ret_intro c Q)
  iapply Hk
  ihave HD := (Entails.of_eq (show DS m c 16 = dLoaded m c 1 by unfold DS; rw [if_neg (by omega), if_neg (by omega), if_neg (by omega)])) $$ HD
  unfold Last WS
  icases HW with ⟨HW0, HW1, -⟩
  ihave HW0 := (Entails.of_eq (show WX m c 16 = wIdle m c 16 from dif_neg (by omega))) $$ HW0
  isplitl [HO]; · iexact HO
  isplitl [Hatb]; · iexact Hatb
  isplitl [HD]; · iexact HD
  isplitl [HW0]; · iexact HW0
  isplitl [HW1]; · iexact HW1
  isplitl [HP]; · iexact HP
  isplitl [HP1]; · iexact HP1
  isplitl [HAd] <;> iassumption

end Cert.KernelIdealProof

end
-- ==== Proof.KernelIdealEnds.lean ====
/-
# `Ends`: what a device starts from and what it gives back

Every buffer is held whole outside the kernel and slot by slot inside it: the slots of each scratch buffer and the
thirty-two blocks of the result are disjoint and cover. At the end every cell is closed, its counter zero again.
-/
module

public import proofs.«01_k».proof.Proof.KernelIdealBody
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × KC → ℕ)

/-! ## Buffers cut into slots -/

omit [FloatOps F] in
theorem blocks_one {ℓ : Loc nD τ sig} (I : Finset (Idx ℓ)) (f : Buf (Elt F) ℓ) : (ℓ ↦[I]{fullShare} f : sProp 𝕄) ⊢ iprop(∃ f, ℓ ↦[I]{fullShare} f) := by
  iintro H; iexists f; iexact H
omit [FloatOps F] in
theorem blocks_split {ℓ : Loc nD τ sig} {B : Type} [Fintype B] [DecidableEq B] (I : B → Finset (Idx ℓ))
    (hd : ∀ b b', b ≠ b' → Disjoint (I b) (I b')) (hc : Finset.univ.biUnion I = Finset.univ) :
    iprop(∃ f, ℓ ↦{fullShare} f) ⊢ (bigSep Finset.univ (fun b => iprop(∃ f, ℓ ↦[I b]{fullShare} f)) : sProp 𝕄) := by
  iintro ⟨%f, H⟩
  ihave H := (Entails.of_eq (Ring.pointsTo_blocks I hd hc f)) $$ H
  iapply (show (bigSep Finset.univ (fun b => ℓ ↦[I b]{fullShare} f) : sProp 𝕄) ⊢ _ from
    bigSep_mono fun b _ => blocks_one (I b) f)
  iexact H

omit [FloatOps F] in
theorem fin2_sep (Φ : Fin 2 → sProp 𝕄) : bigSep Finset.univ Φ = iprop(Φ 0 ∗ Φ 1) := bigSep_univ_eq_bigSepL [0, 1] (by decide) (by decide) Φ

theorem wSlot_rect (s : Fin 2) : (wSlot s).view.set = (wbR s).set := (View.set_reshape _ _).trans (View.set_slice_whole _ _)
theorem pSlot_rect (s : Fin 2) : (pSlot s).view.set = (pbR s).set := (View.set_reshape _ _).trans (View.set_slice_whole _ _)
theorem cSlot_rect (g : Fin 16) : (cSlot g).view.set = (cmR g).set := (View.set_reshape _ _).trans (View.set_slice_whole _ _)
theorem oSl_rect (d : Dev nD) (g : Fin 16) : (oSl d g).view.set = (oR d g).set := View.set_slice_whole _ _

abbrev wBlk (c : Dev nD) (s : Fin 2) : Finset (Idx ((c : Thread nD τ).loc cc0_scratch1)) := (wSlot s).view.set
theorem wSlot_disj (c : Dev nD) (s s' : Fin 2) (h : s ≠ s') : Disjoint (wBlk c s) (wBlk c s') := by
  show Disjoint (wSlot s).view.set (wSlot s').view.set
  rw [wSlot_rect, wSlot_rect]
  refine Rect.unit_disjoint 0 ?_
  show s.val + 1 ≤ s'.val ∨ s'.val + 1 ≤ s.val
  have : s.val ≠ s'.val := fun e => h (Fin.ext e)
  omega
theorem wSlot_mem (i : S2x256x8192.Idx) : i ∈ (wSlot ⟨(i 0).val, (i 0).isLt⟩).view.set := by
  rw [wSlot_rect, Rect.mem_set_unit]
  intro a
  match a with
  | ⟨0, _⟩ => exact ⟨Nat.le_refl _, Nat.lt_succ_self _⟩
  | ⟨1, _⟩ => exact ⟨Nat.zero_le _, by have : (i 1).val < 256 := (i 1).isLt; show (i 1).val < 0 + 256; omega⟩
  | ⟨2, _⟩ => exact ⟨Nat.zero_le _, by have : (i 2).val < 8192 := (i 2).isLt; show (i 2).val < 0 + 8192; omega⟩
theorem wSlot_cover (c : Dev nD) : Finset.univ.biUnion (wBlk c) = Finset.univ :=
  Finset.eq_univ_of_forall fun i => Finset.mem_biUnion.mpr ⟨⟨(i 0).val, (i 0).isLt⟩, Finset.mem_univ _, wSlot_mem i⟩
abbrev pBlk (c : Dev nD) (s : Fin 2) : Finset (Idx ((c : Thread nD τ).loc cc0_scratch2)) := (pSlot s).view.set
theorem pSlot_disj (c : Dev nD) (s s' : Fin 2) (h : s ≠ s') : Disjoint (pBlk c s) (pBlk c s') := by
  show Disjoint (pSlot s).view.set (pSlot s').view.set
  rw [pSlot_rect, pSlot_rect]
  refine Rect.unit_disjoint 0 ?_
  show s.val + 1 ≤ s'.val ∨ s'.val + 1 ≤ s.val
  have : s.val ≠ s'.val := fun e => h (Fin.ext e)
  omega
theorem pSlot_mem (i : S2x512x256.Idx) : i ∈ (pSlot ⟨(i 0).val, (i 0).isLt⟩).view.set := by
  rw [pSlot_rect, Rect.mem_set_unit]
  intro a
  match a with
  | ⟨0, _⟩ => exact ⟨Nat.le_refl _, Nat.lt_succ_self _⟩
  | ⟨1, _⟩ => exact ⟨Nat.zero_le _, by have : (i 1).val < 512 := (i 1).isLt; show (i 1).val < 0 + 512; omega⟩
  | ⟨2, _⟩ => exact ⟨Nat.zero_le _, by have : (i 2).val < 256 := (i 2).isLt; show (i 2).val < 0 + 256; omega⟩
theorem pSlot_cover (c : Dev nD) : Finset.univ.biUnion (pBlk c) = Finset.univ :=
  Finset.eq_univ_of_forall fun i => Finset.mem_biUnion.mpr ⟨⟨(i 0).val, (i 0).isLt⟩, Finset.mem_univ _, pSlot_mem i⟩
abbrev cBlk (c : Dev nD) (s : Fin 16) : Finset (Idx ((c : Thread nD τ).loc cc0_scratch3)) := (cSlot s).view.set
theorem cSlot_disj (c : Dev nD) (s s' : Fin 16) (h : s ≠ s') : Disjoint (cBlk c s) (cBlk c s') := by
  show Disjoint (cSlot s).view.set (cSlot s').view.set
  rw [cSlot_rect, cSlot_rect]
  refine Rect.unit_disjoint 0 ?_
  show s.val + 1 ≤ s'.val ∨ s'.val + 1 ≤ s.val
  have : s.val ≠ s'.val := fun e => h (Fin.ext e)
  omega
theorem cSlot_mem (i : S16x512x256.Idx) : i ∈ (cSlot ⟨(i 0).val, (i 0).isLt⟩).view.set := by
  rw [cSlot_rect, Rect.mem_set_unit]
  intro a
  match a with
  | ⟨0, _⟩ => exact ⟨Nat.le_refl _, Nat.lt_succ_self _⟩
  | ⟨1, _⟩ => exact ⟨Nat.zero_le _, by have : (i 1).val < 512 := (i 1).isLt; show (i 1).val < 0 + 512; omega⟩
  | ⟨2, _⟩ => exact ⟨Nat.zero_le _, by have : (i 2).val < 256 := (i 2).isLt; show (i 2).val < 0 + 256; omega⟩

theorem cSlot_cover (c : Dev nD) : Finset.univ.biUnion (cBlk c) = Finset.univ :=
  Finset.eq_univ_of_forall fun i => Finset.mem_biUnion.mpr ⟨⟨(i 0).val, (i 0).isLt⟩, Finset.mem_univ _, cSlot_mem i⟩
/-- The blocks of device `c`'s result: those it computes (`0`) and those its partner computes (`1`). -/
abbrev oDev (c : Dev nD) (b : Fin 2) : Dev nD := if b = 0 then c else py c
abbrev oBlk (c : Dev nD) (x : Fin 2 × Fin 16) : Finset (Idx ((c : Thread nD τ).loc cc0_stg0_0)) := (oSl (oDev c x.1) x.2).view.set

theorem oDev_par (c : Dev nD) (b b' : Fin 2) (h : (oDev c b).val % 2 = (oDev c b').val % 2) : b = b' := by
  revert c b b'; decide
theorem oBlk_disj (c : Dev nD) (x x' : Fin 2 × Fin 16) (h : x ≠ x') : Disjoint (oBlk c x) (oBlk c x') := by
  obtain ⟨b, g⟩ := x
  obtain ⟨b', g'⟩ := x'
  show Disjoint (oSl (oDev c b) g).view.set (oSl (oDev c b') g').view.set
  rw [oSl_rect, oSl_rect]
  by_cases hr : 1024 * ((oDev c b).val % 2) + 512 * (g.val / 8) = 1024 * ((oDev c b').val % 2) + 512 * (g'.val / 8)
  · refine Rect.unit_disjoint 1 ?_
    show 256 * (g.val % 8) + 256 ≤ 256 * (g'.val % 8) ∨ 256 * (g'.val % 8) + 256 ≤ 256 * (g.val % 8)
    have hg := g.isLt; have hg' := g'.isLt
    have hb : b = b' := oDev_par c b b' (by omega)
    have hne : g.val ≠ g'.val := fun e => h (by rw [hb, Fin.ext e])
    have : (oDev c b).val % 2 = (oDev c b').val % 2 := by rw [hb]
    omega
  · refine Rect.unit_disjoint 0 ?_
    show 1024 * ((oDev c b).val % 2) + 512 * (g.val / 8) + 512 ≤ 1024 * ((oDev c b').val % 2) + 512 * (g'.val / 8)
      ∨ 1024 * ((oDev c b').val % 2) + 512 * (g'.val / 8) + 512 ≤ 1024 * ((oDev c b).val % 2) + 512 * (g.val / 8)
    omega
theorem oBlk_cover (c : Dev nD) : Finset.univ.biUnion (oBlk c) = Finset.univ := by
  refine Finset.eq_univ_of_forall fun i => ?_
  have h0 : (i 0).val < 2048 := (i 0).isLt
  have h1 : (i 1).val < 2048 := (i 1).isLt
  have hs : (stepOf i).val = 8 * (((i 0).val % 1024) / 512) + (i 1).val / 256 := rfl
  have hp := py_par c
  have hb : ∃ b : Fin 2, (oDev c b).val % 2 = (i 0).val / 1024 := by
    by_cases h : (i 0).val / 1024 = c.val % 2
    · exact ⟨0, by rw [show oDev c 0 = c from rfl, h]⟩
    · exact ⟨1, by rw [show oDev c 1 = py c from rfl]; omega⟩
  obtain ⟨b, hb⟩ := hb
  refine Finset.mem_biUnion.mpr ⟨(b, stepOf i), Finset.mem_univ _, ?_⟩
  show i ∈ (oSl (oDev c b) (stepOf i)).view.set
  rw [oSl_rect, Rect.mem_set_unit]
  intro a
  match a with
  | ⟨0, _⟩ =>
    show 1024 * ((oDev c b).val % 2) + 512 * ((stepOf i).val / 8) ≤ (i 0).val ∧ (i 0).val < 1024 * ((oDev c b).val % 2) + 512 * ((stepOf i).val / 8) + 512
    rw [hb, hs]; omega
  | ⟨1, _⟩ =>
    show 256 * ((stepOf i).val % 8) ≤ (i 1).val ∧ (i 1).val < 256 * ((stepOf i).val % 8) + 256
    rw [hs]; omega

/-! ## The scratch buffers and the arguments -/

/-- A scratch buffer whole, at some contents. -/
abbrev Any (c : Dev nD) (b : Ref sig .tc) : sProp 𝕄 := iprop(∃ f : Buf (Elt F) ((c : Thread nD τ).loc b), ((c : Thread nD τ).loc b) ↦{fullShare} f)

omit [FloatOps F] in
theorem wb_split (c : Dev nD) : Any (F := F) c cc0_scratch1 ⊢ iprop((∃ f, Pt (F := F) c (wSlot 0) fullShare f) ∗ (∃ f, Pt (F := F) c (wSlot 1) fullShare f)) :=
  (blocks_split (wBlk c) (wSlot_disj c) (wSlot_cover c)).trans (Entails.of_eq (fin2_sep _))
omit [FloatOps F] in
theorem wb_join (c : Dev nD) (f₀ : Buf (Elt F) ((c : Thread nD τ).loc cc0_scratch1)) :
    iprop((∃ f, Pt (F := F) c (wSlot 0) fullShare f) ∗ (∃ f, Pt (F := F) c (wSlot 1) fullShare f)) ⊢ Any (F := F) c cc0_scratch1 :=
  (Entails.of_eq (fin2_sep (fun s => iprop(∃ f, Pt (F := F) c (wSlot s) fullShare f))).symm).trans
    (Ring.pointsTo_blocks_join_exists (wBlk c) (wSlot_disj c) (wSlot_cover c) f₀)
omit [FloatOps F] in
theorem pb_split (c : Dev nD) : Any (F := F) c cc0_scratch2 ⊢ iprop((∃ f, Pt (F := F) c (pSlot 0) fullShare f) ∗ (∃ f, Pt (F := F) c (pSlot 1) fullShare f)) :=
  (blocks_split (pBlk c) (pSlot_disj c) (pSlot_cover c)).trans (Entails.of_eq (fin2_sep _))
omit [FloatOps F] in
theorem pb_join (c : Dev nD) (f₀ : Buf (Elt F) ((c : Thread nD τ).loc cc0_scratch2)) :
    iprop((∃ f, Pt (F := F) c (pSlot 0) fullShare f) ∗ (∃ f, Pt (F := F) c (pSlot 1) fullShare f)) ⊢ Any (F := F) c cc0_scratch2 :=
  (Entails.of_eq (fin2_sep (fun s => iprop(∃ f, Pt (F := F) c (pSlot s) fullShare f))).symm).trans
    (Ring.pointsTo_blocks_join_exists (pBlk c) (pSlot_disj c) (pSlot_cover c) f₀)
omit [FloatOps F] in
theorem cm_split (c : Dev nD) : Any (F := F) c cc0_scratch3 ⊢ bigSep Finset.univ (fun g => cAny (F := F) c g) :=
  blocks_split (cBlk c) (cSlot_disj c) (cSlot_cover c)
theorem cm_join (c : Dev nD) : bigSep Finset.univ (fun g => Pt c (cSlot g) fullShare (CF m c g)) ⊢ Any (F := F) c cc0_scratch3 :=
  Ring.pointsTo_blocks_join (cBlk c) (cSlot_disj c) (cSlot_cover c) (fun g => CF m c g) (CF m c 0)

omit [FloatOps F] in
theorem out_split (c : Dev nD) : Any (F := F) c cc0_stg0_0
    ⊢ iprop(bigSep Finset.univ (fun g => oAny (F := F) c c g) ∗ bigSep Finset.univ (fun g => oAny (F := F) c (py c) g)) :=
  (blocks_split (oBlk c) (oBlk_disj c) (oBlk_cover c)).trans (Entails.of_eq ((bigSep_univ_prod _).trans (fin2_sep _)))
theorem out_join (c : Dev nD) :
    iprop(bigSep Finset.univ (fun g => Pt c (oSl c g) fullShare (OutF m c)) ∗ bigSep Finset.univ (fun g => Pt c (oSl (py c) g) fullShare (OutF m c)))
      ⊢ ((c : Thread nD τ).loc cc0_stg0_0 ↦{fullShare} (OutF m c) : sProp 𝕄) :=
  Entails.of_eq ((Ring.pointsTo_blocks (oBlk c) (oBlk_disj c) (oBlk_cover c) (OutF m c)).trans ((bigSep_univ_prod _).trans (fin2_sep _))).symm

omit [FloatOps F] in
theorem A1_halves (c : Dev nD) :
    ((c : Thread nD τ).loc main_arg1 ↦{fullShare} m ((c : Thread nD τ).loc main_arg1) : sProp 𝕄) ⊣⊢ iprop(A1 m c 0 ∗ A1 m c 1) :=
  pointsTo_share (PosShare.mem_left_op_right fullShare)

/-! ## The cells one by one, and closing them -/

omit [FloatOps F] in
theorem unit_sep (Φ : Unit → sProp 𝕄) : bigSep Finset.univ Φ = Φ () := bigSep_singleton
omit [FloatOps F] in
theorem fin3_sep (Φ : Fin 3 → sProp 𝕄) : bigSep Finset.univ Φ = iprop(Φ 0 ∗ Φ 1 ∗ Φ 2) := bigSep_univ_eq_bigSepL [0, 1, 2] (by decide) (by decide) Φ
omit [FloatOps F] in
theorem fin4_sep (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem KO_sep (Φ : KO → sProp 𝕄) : bigSep Finset.univ Φ
    = iprop((Φ (.inl 0) ∗ Φ (.inl 1) ∗ Φ (.inl 2))
      ∗ bigSep Finset.univ (fun g => Φ (.inr (0, g))) ∗ bigSep Finset.univ (fun g => Φ (.inr (1, g)))
      ∗ bigSep Finset.univ (fun g => Φ (.inr (2, g))) ∗ bigSep Finset.univ (fun g => Φ (.inr (3, g)))) := by
  rw [bigSep_univ_sum, bigSep_univ_prod, fin3_sep, fin4_sep]; rfl
omit [FloatOps F] in
theorem KC_sep (Φ : KC → sProp 𝕄) : bigSep Finset.univ Φ = iprop(Φ (.inl ()) ∗ bigSep Finset.univ (fun k => Φ (.inr k))) := by
  rw [bigSep_univ_sum, unit_sep]; rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (c : Dev nD) (k : KC) :
    iprop(Ctx m K ∗ atPos ER (kcell (c, k)) (rdsK k) ∅ 0) ⊢ (|={Set.univ}=> semVal (kcell (c, k)) 0 : sProp 𝕄) := by
  iintro ⟨#HC, Hat⟩
  iapply (Rounds.cell_close ER (Rd m) (Set.mem_univ (K (c, k))) (fun h => h) (R := rdsK k) (duties_later m c k))
  isplitr; · iapply (Ctx_inv m K (c, k)); iexact HC
  iexact Hat
theorem close_all (c : Dev nD) :
    iprop(Ctx m K ∗ bigSep Finset.univ (fun k : KC => atPos ER (kcell (c, k)) (rdsK k) ∅ 0))
      ⊢ (|={Set.univ}=> bigSep Finset.univ (fun k : KC => semVal (kcell (c, k)) 0) : sProp 𝕄) :=
  (bigSep_with fun k _ => close_one m K c k).trans (bigSep_fupd _ _)

/-- What device `c` gives back. -/
def Gives (c : Dev nD) : sProp 𝕄 :=
  iprop((Any (F := F) c cc0_scratch0 ∗ Any (F := F) c cc0_scratch1 ∗ Any (F := F) c cc0_scratch2 ∗ Any (F := F) c cc0_scratch3)
    ∗ A0 m c ∗ ((c : Thread nD τ).loc main_arg1 ↦{fullShare} m ((c : Thread nD τ).loc main_arg1))
    ∗ bigSep Finset.univ (fun k : KC => semVal (kcell (c, k)) 0))

theorem last_gives (c : Dev nD) :
    iprop(Ctx m K ∗ Last m c) ⊢ (|={Set.univ}=> iprop(Ows c 0 ∗ Gives m c ∗ ((c : Thread nD τ).loc cc0_stg0_0 ↦{fullShare} (OutF m c))) : sProp 𝕄) := by
  unfold Last Gives
  rw [show (bDone m c) = fun g => iprop(atPos ER (xC c 1 g) 1 ∅ 0 ∗ Pt c (cSlot g) fullShare (CF m c g) ∗ atPos ER (xC c 2 g) 1 ∅ 0 ∗ atPos ER (xC c 3 g) 1 ∅ 0
    ∗ Pt c (oSl c g) fullShare (OutF m c) ∗ Pt c (oSl (py c) g) fullShare (OutF m c)) from rfl]
  simp only [bigSep_sep']
  unfold dLoaded wIdle pFree
  iintro ⟨#HC, HO, Hbar, ⟨Hdv, HA0, HatD, -⟩, ⟨Hw0, HA10, Hat0, -⟩, ⟨Hw1, HA11, Hat1, -⟩, Hp0, Hp1, Hax, Hx1, Hc, Hx2, Hx3, Ho, Hoy⟩
  imod (close_all m K c) $$ [Hbar HatD Hat0 Hat1 Hax Hx1 Hx2 Hx3] with Hz
  · isplitr; · iexact HC
    rw [KC_sep, KO_sep]
    isplitl [Hbar]; · iexact Hbar
    isplitl [HatD Hat0 Hat1]
    · isplitl [Hat0]; · iexact Hat0
      isplitl [Hat1]; · iexact Hat1
      iexact HatD
    isplitl [Hax]; · iexact Hax
    isplitl [Hx1]; · iexact Hx1
    isplitl [Hx2]; · iexact Hx2
    iexact Hx3
  imodintro
  isplitl [HO]; · iexact HO
  isplitr [Ho Hoy]
  · isplitl [Hdv Hw0 Hw1 Hp0 Hp1 Hc]
    · isplitl [Hdv]
      · iexists (dyV m c 1)
        ihave Hdv := (Entails.of_eq (show Pt c dvM fullShare (dyV m c 1) = ((c : Thread nD τ).loc cc0_scratch0 ↦{fullShare} dyV m c 1) by
          show ((c : Thread nD τ).loc cc0_scratch0 ↦[(dvM : Memref sig .tc .vmem S512x8192 .f32).view.set]{fullShare} dyV m c 1) = _
          rw [show (dvM : Memref sig .tc .vmem S512x8192 .f32).view.set = Finset.univ from View.set_whole _])) $$ Hdv
        iexact Hdv
      isplitl [Hw0 Hw1]
      · iapply (wb_join c (WF m c 0))
        isplitl [Hw0]; · iexact Hw0
        iexact Hw1
      isplitl [Hp0 Hp1]
      · iapply (pb_join c (PF m c 0))
        isplitl [Hp0]; · iexact Hp0
        iexact Hp1
      iapply (cm_join m c); iexact Hc
    isplitl [HA0]; · iexact HA0
    isplitl [HA10 HA11]
    · iapply (A1_halves m c).2
      isplitl [HA10]; · iexact HA10
      iexact HA11
    iexact Hz
  iapply (out_join m c)
  isplitl [Ho]; · iexact Ho
  iexact Hoy

/-! ## The body obligation -/

/-- What device `c` holds at the start beside its result buffer and its dues. -/
def Held (c : Dev nD) : sProp 𝕄 :=
  iprop((Any (F := F) c cc0_scratch0 ∗ Any (F := F) c cc0_scratch1 ∗ Any (F := F) c cc0_scratch2 ∗ Any (F := F) c cc0_scratch3)
    ∗ A0 m c ∗ ((c : Thread nD τ).loc main_arg1 ↦{fullShare} m ((c : Thread nD τ).loc main_arg1))
    ∗ (atPos ER (ldC c 2) 0 ∅ 0 ∗ dTok (F := F) c 0 ∗ dTok (F := F) c 1)
    ∗ (atPos ER (ldC c 0) 0 ∅ 0 ∗ atPos ER (ldC c 1) 0 ∅ 0 ∗ bigSep Finset.univ (wTok (F := F) c))
    ∗ bigSep Finset.univ (aTok (F := F) c) ∗ bigSep Finset.univ (rTok (F := F) c)
    ∗ dutyTok ER (barC (px c)) 0 false ∗ dutyTok ER (barC (py c)) 0 true
    ∗ cred (tallyAt (barC c) () 2) ∗ atPos ER (barC c) 0 ∅ 0)

theorem held_start (c : Dev nD) : iprop(Ctx m K ∗ Held m c ∗ Ows c (O₀ c) ∗ Any (F := F) c cc0_stg0_0) ⊢ Start m c := by
  unfold Held Start wIdle pFree
  iintro ⟨#HC, ⟨⟨Hdv, Hwb, Hpb, Hcm⟩, HA0, HA1, HD, ⟨Hat0, Hat1, Hwt⟩, Hrest⟩, HO, Hout⟩
  ihave Hwb := (wb_split c) $$ Hwb
  icases Hwb with ⟨Hw0, Hw1⟩
  ihave Hpb := (pb_split c) $$ Hpb
  icases Hpb with ⟨Hp0, Hp1⟩
  ihave HA1 := (A1_halves m c).1 $$ HA1
  icases HA1 with ⟨HA10, HA11⟩
  ihave Hout := (out_split c) $$ Hout
  icases Hout with ⟨Hoc, Hoy⟩
  icases Hrest with ⟨Hat, Hrt, Hbx, Hby, Hcb, Hatb⟩
  isplitl [HO]; · iexact HO
  isplitl [Hdv HA0 HD]
  · isplitl [Hdv]
    · icases Hdv with ⟨%f, Hdv⟩
      iexists f
      ihave Hdv := (Entails.of_eq (show ((c : Thread nD τ).loc cc0_scratch0 ↦{fullShare} f) = Pt c dvM fullShare f by
          show _ = ((c : Thread nD τ).loc cc0_scratch0 ↦[(dvM : Memref sig .tc .vmem S512x8192 .f32).view.set]{fullShare} f)
          rw [show (dvM : Memref sig .tc .vmem S512x8192 .f32).view.set = Finset.univ from View.set_whole _])) $$ Hdv
      iexact Hdv
    isplitl [HA0]; · iexact HA0
    iexact HD
  isplitl [Hw0 Hw1 HA10 HA11 Hat0 Hat1 Hwt]
  · isplitl [Hw0 HA10 Hat0]
    · isplitl [Hw0]; · iexact Hw0
      isplitl [HA10]; · iexact HA10
      isplitl [Hat0]; · iexact Hat0
      iapply (Ctx_r0 m K (c, .inr (.inl 0))); iexact HC
    isplitl [Hw1 HA11 Hat1]
    · isplitl [Hw1]; · iexact Hw1
      isplitl [HA11]; · iexact HA11
      isplitl [Hat1]; · iexact Hat1
      iapply (Ctx_r0 m K (c, .inr (.inl 1))); iexact HC
    iexact Hwt
  isplitl [Hp0 Hp1]
  · isplitl [Hp0]; · iexact Hp0
    iexact Hp1
  isplitl [Hcm]; · iapply (cm_split c); iexact Hcm
  isplitl [Hoy]; · iexact Hoy
  isplitl [Hoc]; · iexact Hoc
  isplitl [Hat]; · iexact Hat
  isplitl [Hrt]; · iexact Hrt
  isplitl [Hbx]; · iexact Hbx
  isplitl [Hby]; · iexact Hby
  isplitl [Hcb]; · iexact Hcb
  iexact Hatb

def Φ₀ (c : Dev nD) : sProp 𝕄 := iprop((∃ K, Ctx m K) ∗ Held m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => OutF m c
  Φ t := match t with
    | ⟨0, _⟩ => Φ₀ m c
    | ⟨_ + 1, _⟩ => Gives m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Gives m c ∗ (dats m ρ 0 c).owesAt () t0_0.succ ∗ stg c cc0_stg0_0 (OutF m c))

theorem sound_body (c : Dev nD) : bodyPre m ρ c ⊢ WP c body (fun _ => bodyPost m ρ c) := by
  rw [body_eq]
  show bodyPre m ρ c ⊢ wp frame (wpE (defs₀ (F := F)) 𝒱₀ (c : Thread nD τ) none) Set.univ (.op .deviceId fun d => prog d) (fun _ => bodyPost m ρ c)
  rw [wp_deviceId]
  unfold bodyPre Φ₀ Dat.owesAt Pipeline.owesWithin
  iintro ⟨⟨⟨%K, #HC⟩, HH⟩, ⟨%W, %hW, HO⟩, ⟨%d, %f, %hf, Hout⟩⟩
  iapply (wp_prog m K c (fun _ => bodyPost m ρ c))
  isplitr; · iexact HC
  isplitl [HH HO Hout]
  · iapply (held_start m K c)
    isplitr; · iexact HC
    isplitl [HH]; · iexact HH
    isplitl [HO]; · unfold Ows; iexists W; iexact HO
    iexists f; iexact Hout
  iintro HL
  imod (last_gives m K c) $$ [HL] with ⟨HO, HG, Hout⟩
  · isplitr; · iexact HC
    iexact HL
  imodintro
  unfold bodyPost Dat.owesAt Pipeline.owesWithin Ows
  icases HO with ⟨%W', HO⟩
  isplitl [HG]; · iexact HG
  isplitl [HO]
  · iexists W'
    isplitr; · ipureintro; exact fun _ _ => Or.inl trivial
    iexact HO
  iexists _; isplitr; · (ipureintro; rfl)
  iexact Hout

set_option maxRecDepth 100000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = Φ (0 : Fin 1) from bigSep_W0, show ∀ Φ : Fin cfg0.W → sProp 𝕄, bigSep Finset.univ Φ = Φ (0 : Fin 1) from bigSep_W0]
  simp only [owns_whole_eq]
  exact sound_body m ρ c

end Cert.KernelIdealProof

end
-- ==== Proof.KernelIdealRun.lean ====
/-
# `Run`: the launch

The cells' invariants are made for all devices at once, the tokens are dealt to the devices that pay, the launch's credit
is what the neighbours owe; the run leaves every device's result at `OutF`, the arguments unchanged and every semaphore at
zero.
-/
module

public import proofs.«01_k».proof.Proof.KernelIdealEnds
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The duty tokens -/

abbrev TK : Type := Bool ⊕ (Fin 2 ⊕ (Fin 16 ⊕ (Fin 4 × Fin 16)))

set_option backward.proofsInPublic true in
/-- The cell, the round and the duty of a token. -/
abbrev tokK : TK → KC × ℕ × Bool
  | .inl d => (.inl (), 0, d)
  | .inr (.inl p) => (.inr (.inl 2), p.val, false)
  | .inr (.inr (.inl g)) => (.inr (.inl (par3 (par g.val))), g.val / 2, false)
  | .inr (.inr (.inr x)) => (.inr (.inr x), 0, false)
def untok : KC × ℕ × Bool → TK
  | (.inl _, _, d) => .inl d
  | (.inr (.inl s), r, _) => if s = 2 then .inr (.inl (par r)) else .inr (.inr (.inl (stepAt s.val r)))
  | (.inr (.inr x), _, _) => .inr (.inr (.inr x))
theorem untok_tokK (t : TK) : untok (tokK t) = t := by
  match t with
  | .inl d => rfl
  | .inr (.inl p) => revert p; decide
  | .inr (.inr (.inl g)) => revert g; decide
  | .inr (.inr (.inr x)) => rfl
abbrev tokOf (ct : Dev nD × TK) : GSem nD τ sig × ℕ × Bool := (kcell (ct.1, (tokK ct.2).1), (tokK ct.2).2.1, (tokK ct.2).2.2)
theorem tokOf_inj : Function.Injective (tokOf : Dev nD × TK → GSem nD τ sig × ℕ × Bool) := by
  rintro ⟨c, t⟩ ⟨c', t'⟩ h
  have h1 := kcell_inj (congrArg (fun x : GSem nD τ sig × ℕ × Bool => x.1) h)
  have hc : c = c' := congrArg Prod.fst h1
  have hk : (tokK t).1 = (tokK t').1 := congrArg Prod.snd h1
  have hr : (tokK t).2 = (tokK t').2 := congrArg (fun x : GSem nD τ sig × ℕ × Bool => x.2) h
  have ht : t = t' := by rw [← untok_tokK t, ← untok_tokK t', Prod.ext hk hr]
  rw [hc, ht]

def theCells : Finset (GSem nD τ sig) := Finset.univ.map ⟨kcell, kcell_inj⟩
def theToks : Finset (GSem nD τ sig × ℕ × Bool) := Finset.univ.map ⟨tokOf, tokOf_inj⟩

def u₀ : UU := (initOf (Pipeline.cells cfgs cellOf_inj) (Pipeline.launchToks cfgs cellOf_inj), initOf theCells theToks)

abbrev tk (c : Dev nD) (t : TK) : sProp 𝕄 := dutyTok ER (kcell (c, (tokK t).1)) (tokK t).2.1 (tokK t).2.2
/-- The tokens of the duties of device `c`'s own cells. -/
def toks (c : Dev nD) : sProp 𝕄 := bigSep Finset.univ (tk (F := F) c)
/-- The tokens of the duties device `c` pays. -/
def payToks (c : Dev nD) : sProp 𝕄 :=
  iprop((dutyTok ER (barC (px c)) 0 false ∗ dutyTok ER (barC (py c)) 0 true)
    ∗ (dTok (F := F) c 0 ∗ dTok (F := F) c 1) ∗ bigSep Finset.univ (wTok (F := F) c)
    ∗ bigSep Finset.univ (fun g => dutyTok ER (xC c 0 g) 0 false) ∗ bigSep Finset.univ (fun g => dutyTok ER (xC (px c) 1 g) 0 false)
    ∗ bigSep Finset.univ (fun g => dutyTok ER (xC c 2 g) 0 false) ∗ bigSep Finset.univ (fun g => dutyTok ER (xC (py c) 3 g) 0 false))

omit [FloatOps F] in
theorem bool_sep (Φ : Bool → sProp 𝕄) : bigSep Finset.univ Φ = iprop(Φ false ∗ Φ true) := bigSep_univ_eq_bigSepL [false, true] (by decide) (by decide) Φ

omit [FloatOps F] in
theorem toks_eq (c : Dev nD) : toks (F := F) c
    = iprop((dutyTok ER (barC c) 0 false ∗ dutyTok ER (barC c) 0 true)
    ∗ (dTok (F := F) c 0 ∗ dTok (F := F) c 1) ∗ bigSep Finset.univ (wTok (F := F) c)
    ∗ bigSep Finset.univ (fun g => dutyTok ER (xC c 0 g) 0 false) ∗ bigSep Finset.univ (fun g => dutyTok ER (xC c 1 g) 0 false)
    ∗ bigSep Finset.univ (fun g => dutyTok ER (xC c 2 g) 0 false) ∗ bigSep Finset.univ (fun g => dutyTok ER (xC c 3 g) 0 false)) := by
  unfold toks
  rw [bigSep_univ_sum, bigSep_univ_sum, bigSep_univ_sum, bigSep_univ_prod, bool_sep, fin2_sep, fin4_sep]
  rfl

/-- The two neighbour maps as bijections of the mesh. -/
def ePx : Dev nD ≃ Dev nD := ⟨px, px, px_px, px_px⟩
def ePy : Dev nD ≃ Dev nD := ⟨py, py, py_py, py_py⟩

omit [FloatOps F] in
/-- Each token dealt to the device that pays its duty. -/
theorem toks_around : (bigSep Finset.univ fun c : Dev nD => (toks (F := F) c : sProp 𝕄)) ⊢ bigSep Finset.univ fun c : Dev nD => payToks (F := F) c := by
  simp only [toks_eq]
  unfold payToks
  simp only [bigSep_sep']
  rw [bigSep_univ_equiv ePx (fun c : Dev nD => (dutyTok ER (barC c) 0 false : sProp 𝕄)),
    bigSep_univ_equiv ePy (fun c : Dev nD => (dutyTok ER (barC c) 0 true : sProp 𝕄)),
    bigSep_univ_equiv ePx (fun c : Dev nD => (bigSep Finset.univ (fun g => dutyTok ER (xC c 1 g) 0 false) : sProp 𝕄)),
    bigSep_univ_equiv ePy (fun c : Dev nD => (bigSep Finset.univ (fun g => dutyTok ER (xC c 3 g) 0 false) : sProp 𝕄))]
  exact Entails.refl _

/-! ## The launch's ghost state, device by device -/

def G (c : Dev nD) : sProp 𝕄 :=
  iprop((bigSep Finset.univ fun k : KC => roundState ER (Rd m) (kcell (c, k)) 0)
    ∗ (bigSep Finset.univ fun k : KC => iprop(atPos ER (kcell (c, k)) 0 ∅ 0 ∗ reached ER (kcell (c, k)) 0)) ∗ toks (F := F) c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : KC => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks toks; rw [bigSep_map, bigSep_univ_prod]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
theorem sems0_eq (c : Dev nD) :
    (bigSep Finset.univ (fun k : KC => semVal (kcell (c, k)) 0) : sProp 𝕄)
      = iprop(unscopedSems0 c ∗ Pipeline.ownSems0 (Ix := Unit) (Name := ℕ) (U := UU) (Lvl := ℕ) (Val := Elt F) (τ := τ) osem c) := by
  rw [KC_sep, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : KC => semVal (kcell (c, k)) 0) ∗ bigSep Finset.univ fun k : KC => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def linear (c : Dev nD) : sProp 𝕄 :=
  iprop((bigSep Finset.univ fun k : KC => atPos ER (kcell (c, k)) 0 ∅ 0) ∗ payToks (F := F) c)
def G' (c : Dev nD) : sProp 𝕄 := iprop(∃ K, recs m K ∗ linear (F := F) c)

theorem G'_intro (K : Dev nD × KC → ℕ) (c : Dev nD) : iprop(recs m K ∗ linear (F := F) c) ⊢ G' m c := by
  unfold G'; iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × KC => iprop(∃ κ : ℕ, cellInv ER (Rd m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (Rd m) κ (kcell ck) : sProp 𝕄))) $$ HI
  icases HK with ⟨%K, #HI⟩
  ihave Htk := (toks_around (F := F)) $$ Htok
  iapply (bigSep_with (R := recs m K) (Φ := fun c => linear (F := F) c) fun c _ => G'_intro m K c)
  isplitr
  · unfold recs
    rw [bigSep_sep']
    isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_cell (c c' : Dev nD) (k k' : KC) (N : ℕ) : tallyAt (kcell (c, k)) () N (kcell (c', k')) () = if c = c' ∧ k = k' then N else 0 := by
  rw [tallyAt_apply]
  by_cases h : c = c' ∧ k = k'
  · rw [if_pos h, h.1, h.2, if_pos ⟨rfl, rfl⟩]
  · rw [if_neg h, if_neg fun h' => h ?_]
    have := kcell_inj h'.1
    exact ⟨(congrArg Prod.fst this).symm, (congrArg Prod.snd this).symm⟩

theorem sum_cell (c : Dev nD) (g : GSem nD τ sig) (s : Finset (Fin 16)) (f : Fin 16 → CellTallies nD τ sig Unit) :
    (∑ i ∈ s, f i) g () = ∑ i ∈ s, f i g () := by
  induction s using Finset.induction_on with
  | empty => rfl
  | insert a s ha ih => rw [Finset.sum_insert ha, Finset.sum_insert ha, ← ih]; rfl

/-- What device `d` owes the cell `k` of device `c`. -/
theorem owed_cell (d c : Dev nD) (k : KC) : O₀ d (kcell (c, k)) ()
    = (∑ g : Fin 16, if px d = c ∧ (.inr (.inr (1, g)) : KC) = k then NA else 0) + (∑ g : Fin 16, if py d = c ∧ (.inr (.inr (3, g)) : KC) = k then NB else 0)
      + (if py d = c ∧ (.inl () : KC) = k then 1 else 0) + (if px d = c ∧ (.inl () : KC) = k then 1 else 0) := by
  have hA : OA d 0 (kcell (c, k)) () = ∑ g : Fin 16, if px d = c ∧ (.inr (.inr (1, g)) : KC) = k then NA else 0 := by
    unfold OA
    rw [sum_cell c, Finset.filter_true_of_mem (fun _ _ => Nat.zero_le _)]
    exact Finset.sum_congr rfl fun g _ => tally_cell (px d) c (.inr (.inr (1, g))) k NA
  have hB : OB d 0 (kcell (c, k)) () = ∑ g : Fin 16, if py d = c ∧ (.inr (.inr (3, g)) : KC) = k then NB else 0 := by
    unfold OB
    rw [sum_cell c, Finset.filter_true_of_mem (fun _ _ => Nat.zero_le _)]
    exact Finset.sum_congr rfl fun g _ => tally_cell (py d) c (.inr (.inr (3, g))) k NB
  rw [← hA, ← hB, ← tally_cell (py d) c (.inl ()) k 1, ← tally_cell (px d) c (.inl ()) k 1]
  rfl

theorem px_iff (d c : Dev nD) : px d = c ↔ d = px c := ⟨fun h => by rw [← h, px_px], fun h => by rw [h, px_px]⟩
theorem py_iff (d c : Dev nD) : py d = c ↔ d = py c := ⟨fun h => by rw [← h, py_py], fun h => by rw [h, py_py]⟩

theorem pick_none (P : Prop) [Decidable P] (i : Fin 4) (k : KC) (N : ℕ) (h : ∀ g : Fin 16, (.inr (.inr (i, g)) : KC) ≠ k) :
    (∑ g : Fin 16, if P ∧ (.inr (.inr (i, g)) : KC) = k then N else 0) = 0 :=
  Finset.sum_eq_zero fun g _ => if_neg fun h' => h g h'.2
theorem pick_one (P : Prop) [Decidable P] (i : Fin 4) (g : Fin 16) (N : ℕ) :
    (∑ g' : Fin 16, if P ∧ (.inr (.inr (i, g')) : KC) = .inr (.inr (i, g)) then N else 0) = if P then N else 0 := by
  rw [Finset.sum_eq_single g (fun g' _ hg => if_neg fun h => hg (by have := h.2; simpa using this)) (fun h => absurd (Finset.mem_univ _) h)]
  by_cases hP : P
  · rw [if_pos ⟨hP, rfl⟩, if_pos hP]
  · rw [if_neg fun h => hP h.1, if_neg hP]

theorem owed_bar (d c : Dev nD) : O₀ d (barC c) () = (if d = py c then 1 else 0) + (if d = px c then 1 else 0) := by
  rw [show barC c = kcell (c, .inl ()) from rfl, owed_cell, pick_none _ _ _ _ (fun g => by decide +revert), pick_none _ _ _ _ (fun g => by decide +revert)]
  simp only [_root_.and_true, px_iff, py_iff, Nat.zero_add]
theorem owed_a (d c : Dev nD) (g : Fin 16) : O₀ d (xC c 1 g) () = if d = px c then NA else 0 := by
  rw [show xC c 1 g = kcell (c, .inr (.inr (1, g))) from rfl, owed_cell, pick_one, pick_none _ _ _ _ (fun g' => by simp)]
  simp [px_iff]
theorem owed_b (d c : Dev nD) (g : Fin 16) : O₀ d (xC c 3 g) () = if d = py c then NB else 0 := by
  rw [show xC c 3 g = kcell (c, .inr (.inr (3, g))) from rfl, owed_cell, pick_one, pick_none _ _ _ _ (fun g' => by simp)]
  simp [py_iff]

theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar (c : Dev nD) : tallyOn (barC c) (launchCredit (Pipeline.owing O₀) 0 (barC c)) = (tallyAt (barC c) () 2 : CellTallies nD τ sig Unit) :=
  launch_cell _ _ (by
    rw [Finset.sum_congr rfl fun d _ => owed_bar d c, Finset.sum_add_distrib,
      Finset.sum_ite_eq' Finset.univ (py c) fun _ => 1, Finset.sum_ite_eq' Finset.univ (px c) fun _ => 1, if_pos (Finset.mem_univ _), if_pos (Finset.mem_univ _)])
theorem launch_a (c : Dev nD) (g : Fin 16) : tallyOn (xC c 1 g) (launchCredit (Pipeline.owing O₀) 0 (xC c 1 g)) = (tallyAt (xC c 1 g) () NA : CellTallies nD τ sig Unit) :=
  launch_cell _ _ (by rw [Finset.sum_congr rfl fun d _ => owed_a d c g, Finset.sum_ite_eq' Finset.univ (px c) fun _ => NA, if_pos (Finset.mem_univ _)])
theorem launch_b (c : Dev nD) (g : Fin 16) : tallyOn (xC c 3 g) (launchCredit (Pipeline.owing O₀) 0 (xC c 3 g)) = (tallyAt (xC c 3 g) () NB : CellTallies nD τ sig Unit) :=
  launch_cell _ _ (by rw [Finset.sum_congr rfl fun d _ => owed_b d c g, Finset.sum_ite_eq' Finset.univ (py c) fun _ => NB, if_pos (Finset.mem_univ _)])

omit [FloatOps F] in
theorem creds_pick (c : Dev nD) : (Pipeline.launchCred O₀ c : sProp 𝕄)
    ⊢ iprop(cred (tallyOn (barC c) (launchCredit (Pipeline.owing O₀) 0 (barC c)))
      ∗ bigSep Finset.univ (fun g => cred (tallyOn (xC c 1 g) (launchCredit (Pipeline.owing O₀) 0 (xC c 1 g))))
      ∗ bigSep Finset.univ (fun g => cred (tallyOn (xC c 3 g) (launchCredit (Pipeline.owing O₀) 0 (xC c 3 g))))) := by
  have h : (bigSep Finset.univ (fun k : KC => cred (tallyOn (kcell (c, k)) (launchCredit (Pipeline.owing O₀) 0 (kcell (c, k))))) : sProp 𝕄)
      ⊢ iprop(cred (tallyOn (barC c) (launchCredit (Pipeline.owing O₀) 0 (barC c)))
        ∗ bigSep Finset.univ (fun g => cred (tallyOn (xC c 1 g) (launchCredit (Pipeline.owing O₀) 0 (xC c 1 g))))
        ∗ bigSep Finset.univ (fun g => cred (tallyOn (xC c 3 g) (launchCredit (Pipeline.owing O₀) 0 (xC c 3 g))))) := by
    rw [KC_sep, KO_sep]
    iintro ⟨Hb, -, -, Ha, -, Hx⟩
    isplitl [Hb]; · iexact Hb
    isplitl [Ha]; · iexact Ha
    iexact Hx
  unfold Pipeline.launchCred
  refine (bigSep_subset (Finset.subset_univ (Finset.univ.map ⟨csem, csem_inj⟩))).trans ?_
  rw [bigSep_map]
  exact h

omit [FloatOps F] in
theorem creds (c : Dev nD) : (Pipeline.launchCred O₀ c : sProp 𝕄)
    ⊢ iprop(cred (tallyAt (barC c) () 2) ∗ bigSep Finset.univ (fun g => cred (tallyAt (xC c 1 g) () NA)) ∗ bigSep Finset.univ (fun g => cred (tallyAt (xC c 3 g) () NB))) := by
  have h := creds_pick (F := F) c
  rw [launch_bar] at h
  simp only [launch_a, launch_b] at h
  exact h

/-! ## What each device starts from and gives back -/

abbrev Args (c : Dev nD) : sProp 𝕄 :=
  iprop(A0 m c ∗ ((c : Thread nD τ).loc main_arg1 ↦{fullShare} m ((c : Thread nD τ).loc main_arg1)))

def start (c : Dev nD) : sProp 𝕄 :=
  iprop(Args m c ∗ levAts L lv ∗ (cred (tallyAt (barC c) () 2) ∗ bigSep Finset.univ (fun g => cred (tallyAt (xC c 1 g) () NA)) ∗ bigSep Finset.univ (fun g => cred (tallyAt (xC c 3 g) () NB)))
    ∗ G' m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start
  isplitl
  · isplitl [HA]; · iexact HA
    isplitl [Hlev]; · iexact Hlev
    isplitl [Hc]; · iexact Hc
    iexact HG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start G' linear payToks Held
  rw [KC_sep, KO_sep,
    show (aTok (F := F) c) = fun g => iprop(dutyTok ER (xC c 0 g) 0 false ∗ dutyTok ER (xC (px c) 1 g) 0 false ∗ atPos ER (xC c 0 g) 0 ∅ 0) from rfl,
    show (rTok (F := F) c) = fun g => iprop(atPos ER (xC c 1 g) 0 ∅ 0 ∗ cred (tallyAt (xC c 1 g) () NA)
    ∗ dutyTok ER (xC c 2 g) 0 false ∗ dutyTok ER (xC (py c) 3 g) 0 false
    ∗ atPos ER (xC c 2 g) 0 ∅ 0 ∗ atPos ER (xC c 3 g) 0 ∅ 0 ∗ cred (tallyAt (xC c 3 g) () NB)) from rfl]
  simp only [bigSep_sep']
  iintro ⟨⟨⟨HA0, HA1⟩, Hlev, ⟨Hcb, Hca, Hcx⟩, ⟨%K, HR, ⟨Pb, ⟨P0, P1, P2⟩, Pa, Px, Py, Pz⟩, ⟨Tbx, Tby⟩, ⟨Td0, Td1⟩, Tw, Ta, Tx, Ty, Tz⟩⟩, -, Hscr⟩
  isplitl [HR Hlev]
  · iexists K; unfold Ctx
    isplitl [HR]; · iexact HR
    iexact Hlev
  isplitl [Hscr]; · iexact Hscr
  isplitl [HA0]; · iexact HA0
  isplitl [HA1]; · iexact HA1
  isplitl [P2 Td0 Td1]
  · isplitl [P2]; · iexact P2
    isplitl [Td0]; · iexact Td0
    iexact Td1
  isplitl [P0 P1 Tw]
  · isplitl [P0]; · iexact P0
    isplitl [P1]; · iexact P1
    iexact Tw
  isplitl [Ta Tx Pa]
  · isplitl [Ta]; · iexact Ta
    isplitl [Tx]; · iexact Tx
    iexact Pa
  isplitl [Px Hca Ty Tz Py Pz Hcx]
  · isplitl [Px]; · iexact Px
    isplitl [Hca]; · iexact Hca
    isplitl [Ty]; · iexact Ty
    isplitl [Tz]; · iexact Tz
    isplitl [Py]; · iexact Py
    isplitl [Pz]; · iexact Pz
    iexact Hcx
  isplitl [Tbx]; · iexact Tbx
  isplitl [Tby]; · iexact Tby
  isplitl [Hcb]; · iexact Hcb
  iexact Pb

theorem phi1_exit (c : Dev nD) :
    (dats m ρ 0 c).Φ (Fin.last cfg0.N) ⊢ iprop((unscopedSems0 c ∗ Args m c) ∗ Pipeline.ownSems0 osem c ∗ Pipeline.scopedRest cfg0.spec c) := by
  rw [show (dats m ρ 0 c).Φ (Fin.last cfg0.N) = Gives m c from rfl, scopedRest0_eq]
  unfold Gives
  rw [sems0_eq]
  iintro ⟨Hscr, HA0, HA1, Hus, Hos⟩
  isplitl [Hus HA0 HA1]
  · isplitl [Hus]; · iexact Hus
    isplitl [HA0]; · iexact HA0
    iexact HA1
  isplitl [Hos]; · iexact Hos
  iexact Hscr

omit [FloatOps F] in
theorem mayWait_stage (c : Dev nD) (sm : SemLoc sig) (h : dk sm = none) (O : CellTallies nD τ sig Unit) (hO : Above 0 O) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => (hO g u hg).1)
    (fun p hp => by
      rw [Finset.mem_singleton.mp hp]
      show (match dk sm with | some k => lvK k | none => 0) ≤ 0
      rw [h])
    (fun g u hg => (hO g u hg).2)

theorem O₀_above (c : Dev nD) : Above 0 (O₀ c) :=
  (((OA_above c 0 0 (by omega)).add (OB_above c 0 0 (by omega))).add (Above.tally (py c) (.inl ()) 1 Nat.one_pos)).add (Above.tally (px c) (.inl ()) 1 Nat.one_pos)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide) _ (by
      rcases t with ⟨_ | _, ht⟩
      · exact O₀_above c
      · exact Above.zero 0)

theorem ownSemFacts : Pipeline.OwnSemFacts cfg0.spec osem := ⟨by decide, fun a b h => by
  have := csem_inj (a₁ := .inr a) (a₂ := .inr b) h; exact Sum.inr.inj this, by decide⟩

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QA (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)

theorem args_read (c : Dev nD) (s' : Phys nD τ sig (Elt F)) : iprop(Args m c ∗ SI s') ⊢ (iprop(⌜QA m c s'.mem⌝ ∗ SI s') : sProp 𝕄) := by
  iintro ⟨⟨H0, H1⟩, HSI⟩
  icombine HSI H0 gives %h0
  icombine HSI H1 gives %h1
  isplitr
  · ipureintro
    exact ⟨Buf.eq_of_forall_mem_univ h0, Buf.eq_of_forall_mem_univ h1⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ QA m c r.2

set_option maxRecDepth 8000 in
/-- On the mesh of four devices, for any float values, from any memory with zero counters: every weakly fair execution
    terminates; every final state has each device's result at the computed contents, the arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ Args m c)) (Z := fun _ => iprop(emp))
    (hX := start_intro m ρ) (hin := phi0_intro m ρ) (hout := phi1_exit m ρ)
    (QY := fun c s => QA m c s ∧ ∀ sm : SemLoc sig, sm.isScoped .tc = false → s.sem ((c.tc : Thread nD τ), sm) = 0)
    (hY := fun c s' => by
      iintro ⟨⟨Hu, HA⟩, -, HSI⟩
      ihave H := (args_read m c s') $$ [HA HSI]
      · isplitl [HA] <;> iassumption
      icases H with ⟨%hA, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hA, hz⟩
      iexact HSI)
    (hQ := fun _ h hs => ⟨fun c => ⟨fun w => (h c).1 w, (h c).2.2.1⟩, sem_eq_zero hs fun c => (h c).2.2.2⟩)

/-- The result array after the run. -/
theorem finalA_out (c : Dev nD) : finalA m ρ c (0 : Fin 1) = (OutF m c : Buf (Elt F) ((c : Thread nD τ).loc main_v1)) :=
  (dats m ρ 0 c).arrAt_eq_of_after_last (0 : Fin 1) t0_0 (by decide +kernel) _ (fun j => by rfl)

end Cert.KernelIdealProof

end
-- ==== Proof.Value.lean ====
/-
# `Value`: the result is the plain product

Every element of a device's result is the sum of two products over half of the contraction, its own and the peer's:
together they are the product over the whole contraction, whichever of the two devices holds which half.
-/
module

public import proofs.«01_k».proof.Proof.KernelIdealRun
public import proofs.«01_k».proof.Proof.Gen.ReferenceIdeal.Run
public import Idealize.ShloMosaic.PureOps.Ideal
public import Idealize.ShloMosaic.Lib.Layout
public import Idealize.ShloMosaic.Lib.Pointwise
public import Idealize.ShloMosaic.Lib.Pipeline.Value

@[expose] public section

noncomputable section

namespace Cert.ValueProof

open Cert.KernelIdeal Cert.KernelIdeal.Gen Cert.KernelIdealProof
open Idealize.ShloMosaic
open Idealize.ShloMosaic.TcCoe
open Idealize.SL.Sem

/-! ## The contents, through the memrefs, for any float values -/

section AnyValues
variable {F : FTy → Type} [FloatOps F]
variable (m : (ℓ : Loc nD τ sig) → Buf (Elt F) ℓ)

/-- The product over the device's half of the contraction. -/
def half (c : Dev nD) (g : Fin 16) : FVec F S512x256 .f32 :=
  matmul dot_S512x8192_S256x8192_S512x256_1_1_0_0_n_n none (dyV m c (panel g)) (wV m c g) (constant S512x256 .f32 0x00000000#32)

theorem slot_w (c : Dev nD) (g : Fin 16) :
    shapeCast S256x8192 ((wbM.access (wbR (par g.val))).read (Elt F) (WF m c g)) shapeCasts_S1x256x8192_S256x8192 = wV m c g := by
  show (wSlot (par g.val)).view.read (Elt F) (WF m c g) = _
  exact View.read_write_univ _ _

theorem partialV_cast (c : Dev nD) (g : Fin 16) : shapeCast S512x256 (partialV m c g) shapeCasts_S1x512x256_S512x256 = half m c g := by
  unfold partialV k0_pay1 half
  rw [slot_w]
  exact shapeCast_shapeCast _ _ _

theorem slot_p (c : Dev nD) (g : Fin 16) :
    shapeCast S512x256 ((pbM.access (pbR (par g.val))).read (Elt F) (PF m c g)) shapeCasts_S1x512x256_S512x256 = half m c g := by
  rw [← partialV_cast]
  unfold PF
  rw [View.read_write_univ]

theorem slot_c (c : Dev nD) (g : Fin 16) :
    shapeCast S512x256 ((cmM.access (cmR g)).read (Elt F) (CF m c g)) shapeCasts_S1x512x256_S512x256 = half m (px c) g := by
  show (cSlot g).view.read (Elt F) (CF m c g) = _
  unfold CF
  rw [View.read_write_univ]
  exact slot_p m (px c) g

theorem red_eq (c : Dev nD) (g : Fin 16) : red m c g = addf (half m c g) (half m (px c) g) := by
  unfold red k0_pay3
  rw [slot_p, slot_c]

end AnyValues

/-! ## At the extended reals -/

variable (m : (ℓ : Loc nD τ sig) → Buf (Elt Ideal) ℓ)

theorem half_apply (c : Dev nD) (g : Fin 16) (x : S512x256.Idx) :
    half m c g x = ∑ k : Fin 8192, (dyV m c (panel g) (ix2 (x 0) k) : EReal) * wV m c g (ix2 (x 1) k) := by
  unfold half
  pointwise

theorem dyV_apply (c : Dev nD) (p : Fin 2) (r : Fin 512) (k : Fin 8192) (R : Fin 2048) (hR : R.val = 1024 * (c.val % 2) + 512 * p.val + r.val) :
    dyV m c p (ix2 r k) = m ((c : Thread nD τ).loc main_arg0) (ix2 R k : S2048x8192.Idx) := by
  show m ((c : Thread nD τ).loc main_arg0) ((dyR c p).emb (ix2 r k)) = _
  refine congrArg _ (funext fun a => ?_)
  match a with
  | ⟨0, _⟩ => exact Fin.ext (by show 1024 * (c.val % 2) + 512 * p.val + 1 * r.val = R.val; omega)
  | ⟨1, _⟩ => exact Fin.ext (by show 0 + 1 * k.val = k.val; omega)

theorem wV_apply (c : Dev nD) (g : Fin 16) (j : Fin 256) (k : Fin 8192) (J : Fin 2048) (hJ : J.val = 256 * (g.val % 8) + j.val) :
    wV m c g (ix2 j k) = m ((c : Thread nD τ).loc main_arg1) (ix2 J k : S2048x8192.Idx) := by
  show m ((c : Thread nD τ).loc main_arg1) ((wR g).emb (ix2 j k)) = _
  refine congrArg _ (funext fun a => ?_)
  match a with
  | ⟨0, _⟩ => exact Fin.ext (by show 256 * (g.val % 8) + 1 * j.val = J.val; omega)
  | ⟨1, _⟩ => exact Fin.ext (by show 0 + 1 * k.val = k.val; omega)

/-- Where a device's column of its half lies in the whole arrays. -/
abbrev colOf (h : Fin 2) (k : Fin 8192) : Fin 16384 := ⟨8192 * h.val + k.val, by have := h.isLt; have := k.isLt; omega⟩
abbrev halfOf (c : Dev nD) : Fin 2 := ⟨c.val / 2, by have : c.val < 4 := c.isLt; omega⟩

theorem blockN_col (c : Dev nD) (A : Cert.ReferenceIdeal.S2048x16384.Idx → EReal) (R : Fin 2048) (k : Fin 8192) :
    Layout.blockN ⟨2, ![2048, 8192]⟩ ⟨2, ![2048, 16384]⟩ (Layout.meshBlock [2, 2] ![[], [0]] c) A (by decide) (ix2 R k) = A (ix2 R (colOf (halfOf c) k)) := by
  rw [Layout.blockN_apply]
  refine congrArg A (funext fun a => Fin.ext ?_)
  rw [Layout.TilesN.idx_val]
  match a with
  | ⟨0, _⟩ => show 0 * 2048 + R.val = R.val; omega
  | ⟨1, _⟩ =>
    show (c.val / (2 * 1) % 2 * 1 + 0) * 8192 + k.val = 8192 * (c.val / 2) + k.val
    have : c.val < 4 := c.isLt
    omega

/-- The product over one half of the contraction, of the whole arrays. -/
def part (A B : Cert.ReferenceIdeal.S2048x16384.Idx → EReal) (R J : Fin 2048) (h : Fin 2) : EReal :=
  ∑ k : Fin 8192, A (ix2 R (colOf h k)) * B (ix2 J (colOf h k))

theorem sum_halves (f : Fin 16384 → EReal) : ∑ k : Fin 16384, f k = ∑ k : Fin 8192, f (colOf 0 k) + ∑ k : Fin 8192, f (colOf 1 k) := by
  have h : ∑ k : Fin 16384, f k = ∑ k : Fin 8192, f (Fin.castAdd 8192 k) + ∑ k : Fin 8192, f (Fin.natAdd 8192 k) :=
    Fin.sum_univ_add (a := 8192) (b := 8192) f
  have h0 : ∀ k : Fin 8192, colOf 0 k = Fin.castAdd 8192 k := fun k => Fin.ext (Nat.zero_add k.val)
  have h1 : ∀ k : Fin 8192, colOf 1 k = Fin.natAdd 8192 k := fun k => Fin.ext rfl
  rw [h]
  simp only [h0, h1]

theorem parts_sum (A B : Cert.ReferenceIdeal.S2048x16384.Idx → EReal) (R J : Fin 2048) :
    part A B R J 0 + part A B R J 1 = ∑ k : Fin 16384, A (ix2 R k) * B (ix2 J k) :=
  (sum_halves fun k => A (ix2 R k) * B (ix2 J k)).symm

theorem px_par (c : Dev nD) : (px c).val % 2 = c.val % 2 := by revert c; decide
theorem px_half (c : Dev nD) : (halfOf c = 0 ∧ halfOf (px c) = 1) ∨ (halfOf c = 1 ∧ halfOf (px c) = 0) := by revert c; decide

section Agree
variable (A B : Cert.ReferenceIdeal.S2048x16384.Idx → EReal)
variable (hA : ∀ c : Dev nD, m ((c : Thread nD τ).loc main_arg0)
  = Layout.blockN ⟨2, ![2048, 8192]⟩ ⟨2, ![2048, 16384]⟩ (Layout.meshBlock [2, 2] ![[], [0]] c) A)
variable (hB : ∀ c : Dev nD, m ((c : Thread nD τ).loc main_arg1)
  = Layout.blockN ⟨2, ![2048, 8192]⟩ ⟨2, ![2048, 16384]⟩ (Layout.meshBlock [2, 2] ![[], [0]] c) B)

include hA hB in
theorem half_part (c : Dev nD) (g : Fin 16) (x : S512x256.Idx) (R J : Fin 2048)
    (hR : R.val = 1024 * (c.val % 2) + 512 * (g.val / 8) + (x 0).val) (hJ : J.val = 256 * (g.val % 8) + (x 1).val) :
    half m c g x = part A B R J (halfOf c) := by
  rw [half_apply]
  unfold part
  refine Finset.sum_congr rfl fun k _ => ?_
  rw [dyV_apply m c (panel g) (x 0) k R hR, wV_apply m c g (x 1) k J hJ, hA c, hB c]
  exact congrArg₂ (· * ·) (blockN_col c A R k) (blockN_col c B J k)

theorem dev_par (c : Dev nD) (i : S2048x2048.Idx) : (devOf c i).val % 2 = (i 0).val / 1024 := by
  have h : (i 0).val < 2048 := (i 0).isLt
  have hp := py_par c
  unfold devOf
  split <;> omega

include hA hB in
/-- Every element of a device's result is the product over the whole contraction. -/
theorem out_apply (c : Dev nD) (i : S2048x2048.Idx) :
    OutF m c i = ∑ k : Fin 16384, A (ix2 (i 0) k) * B (ix2 (i 1) k) := by
  have h0 : (i 0).val < 2048 := (i 0).isLt
  have h1 : (i 1).val < 2048 := (i 1).isLt
  have hd := dev_par c i
  have hq := px_par (devOf c i)
  have hm : (i 0).val % 1024 < 1024 := Nat.mod_lt _ (by decide)
  have hs : (stepOf i).val = 8 * (((i 0).val % 1024) / 512) + (i 1).val / 256 := rfl
  have hx0 : (posOf i 0).val = (i 0).val % 512 := rfl
  have hx1 : (posOf i 1).val = (i 1).val % 256 := rfl
  have hR : (i 0).val = 1024 * ((devOf c i).val % 2) + 512 * ((stepOf i).val / 8) + (posOf i 0).val := by rw [hd, hs, hx0]; omega
  have hR' : (i 0).val = 1024 * ((px (devOf c i)).val % 2) + 512 * ((stepOf i).val / 8) + (posOf i 0).val := by rw [hq]; exact hR
  have hJ : (i 1).val = 256 * ((stepOf i).val % 8) + (posOf i 1).val := by rw [hs, hx1]; omega
  unfold OutF
  rw [red_eq]
  show (half m (devOf c i) (stepOf i) (posOf i) + half m (px (devOf c i)) (stepOf i) (posOf i) : EReal) = _
  rw [half_part m A B hA hB (devOf c i) (stepOf i) (posOf i) (i 0) (i 1) hR hJ, half_part m A B hA hB (px (devOf c i)) (stepOf i) (posOf i) (i 0) (i 1) hR' hJ]
  rcases px_half (devOf c i) with ⟨ha, hb⟩ | ⟨ha, hb⟩
  · rw [ha, hb]; exact parts_sum A B (i 0) (i 1)
  · rw [ha, hb, add_comm]; exact parts_sum A B (i 0) (i 1)

/-- The reference's result. -/
abbrev plain : Cert.ReferenceIdeal.S2048x2048.Idx → EReal :=
  Host.dotGeneral (F := Ideal) (φ₁ := .f32) (φ₂ := .f32) Cert.ReferenceIdeal.dot_S2048x16384_S16384x2048_S2048x2048_1_0_0_1_n_n none A
    (transpose Cert.ReferenceIdeal.S16384x2048 [1, 0] B Cert.ReferenceIdeal.Gen.facts.transposes_S2048x16384_S16384x2048_1_0)

theorem plain_apply (i : Cert.ReferenceIdeal.S2048x2048.Idx) : plain A B i = ∑ k : Fin 16384, A (ix2 (i 0) k) * B (ix2 (i 1) k) := by
  unfold plain
  pointwise

include hA hB in
theorem out_eq (c : Dev nD) : OutF m c = plain A B := funext fun i => (out_apply m A B hA hB c i).trans (plain_apply A B i).symm

end Agree

end Cert.ValueProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, keeps its arguments and ends with every counter at zero. -/
theorem frame_kernel : Cert.quiescent_Kernel := fun m ρ _ =>
  (θ_run Cert.Kernel.defs _ _).mono (fun _ h => ⟨fun c => (h.1 c).2, h.2⟩) (Cert.KernelProof.run_main (F := Bits) m ρ)

/-- So does its idealization. -/
theorem frame_kernelIdeal : Cert.quiescent_KernelIdeal := fun m ρ _ =>
  (θ_run Cert.KernelIdeal.defs _ _).mono (fun _ h => ⟨fun c => (h.1 c).2, h.2⟩) (Cert.KernelIdealProof.run_main (F := Ideal) m ρ)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic_kernel : Cert.algebraic_KernelIdeal_ReferenceIdeal := fun m ρ m' ρ' _ hag =>
  ⟨Cert.ValueProof.plain _ _,
    (θ_run Cert.KernelIdeal.defs _ _).mono
      (fun _ h c => ⟨((h.1 c).1 0).trans ((Cert.KernelIdealProof.finalA_out m ρ c).trans
        (Cert.ValueProof.out_eq m _ _ (fun c => (hag c).1) (fun c => (hag c).2) c)), (h.1 c).2⟩)
      (Cert.KernelIdealProof.run_main (F := Ideal) m ρ),
    (θ_run Cert.ReferenceIdeal.defs _ _).mono (fun _ h => h 0) (Cert.ReferenceIdeal.Value.run (F := Ideal) m' ρ')⟩

/-- The claims together, after the witnesses of the programs' stated facts. -/
theorem claim : Cert.Claim := ⟨Cert.Kernel.Gen.facts, Cert.KernelIdeal.Gen.facts, Cert.ReferenceIdeal.Gen.facts,
  frame_kernel, frame_kernelIdeal, frame_reference, trivial, algebraic_kernel⟩

end Cert.Proof

end
